-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_params [hPre_finite_params : Cert.Pre_finite_params.Facts] (m : (ℓ : Loc Cert.KernelIdeal.nD Cert.KernelIdeal.τ Cert.KernelIdeal.sig) → Buf (Elt Ideal) ℓ) : Prop :=
  ∀ c : Dev Cert.KernelIdeal.nD,
    (Cert.Pre_finite_params.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_params [hPre_finite_params : Cert.Pre_finite_params.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_params.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite_params [hKernelIdeal : Cert.KernelIdeal.Facts] [hPre_finite_params : Cert.Pre_finite_params.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_params m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite_params [hReferenceIdeal : Cert.ReferenceIdeal.Facts] [hPre_finite_params : Cert.Pre_finite_params.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_params m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_finite_params [hKernelIdeal : Cert.KernelIdeal.Facts] [hReferenceIdeal : Cert.ReferenceIdeal.Facts] [hPre_finite_params : Cert.Pre_finite_params.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_params m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_params : Cert.Pre_finite_params.Facts),
    quiescent_Kernel (hKernel := hKernel)
    ∧ quiescent_KernelIdeal (hKernelIdeal := hKernelIdeal)
    ∧ quiescent_KernelIdeal_pre_finite_params (hKernelIdeal := hKernelIdeal) (hPre_finite_params := hPre_finite_params)
    ∧ quiescent_ReferenceIdeal (hReferenceIdeal := hReferenceIdeal)
    ∧ quiescent_ReferenceIdeal_pre_finite_params (hReferenceIdeal := hReferenceIdeal) (hPre_finite_params := hPre_finite_params)
    ∧ preserves_Kernel_KernelIdeal
    ∧ algebraic_KernelIdeal_ReferenceIdeal_pre_finite_params (hKernelIdeal := hKernelIdeal) (hReferenceIdeal := hReferenceIdeal) (hPre_finite_params := hPre_finite_params)
-- ==== Pre_finite_params.lean ====
abbrev S4x1216x4096 : Shape := ⟨3, ![4, 1216, 4096]⟩
abbrev S4x3x4096 : Shape := ⟨3, ![4, 3, 4096]⟩
abbrev S256x1216 : Shape := ⟨2, ![256, 1216]⟩
abbrev S256 : Shape := ⟨1, ![256]⟩
abbrev S64x256 : Shape := ⟨2, ![64, 256]⟩
abbrev S64 : Shape := ⟨1, ![64]⟩
abbrev S128x128 : Shape := ⟨2, ![128, 128]⟩
abbrev S128 : Shape := ⟨1, ![128]⟩
abbrev S_ : Shape := ⟨0, ![]⟩

class Facts : Prop where
  bcast_S_S256 : S_.BroadcastsInDim S256 (![] : Fin 0 → Fin S256.rank)
  reducesTo_S256_S_d0 : S256.ReducesTo [0] S_
  h_S_ : 0 < S_.numel
  bcast_S_S64 : S_.BroadcastsInDim S64 (![] : Fin 0 → Fin S64.rank)
  reducesTo_S64_S_d0 : S64.ReducesTo [0] S_

variable [Facts]

def fn {F : FTy → Type} [FloatOps F] (main_arg0 : FVec F S4x1216x4096 .f32) (main_arg1 : FVec F S4x3x4096 .f32) (main_arg2 : FVec F S256x1216 .f32) (main_arg3 : FVec F S256 .f32) (main_arg4 : FVec F S256 .f32) (main_arg5 : FVec F S256 .f32) (main_arg6 : FVec F S64x256 .f32) (main_arg7 : FVec F S64 .f32) (main_arg8 : FVec F S64 .f32) (main_arg9 : FVec F S64 .f32) (main_arg10 : FVec F S128x128 .f32) (main_arg11 : FVec F S128 .f32) (main_arg12 : FVec F S128 .f32) (main_arg13 : FVec F S128 .f32) : IVec S_ 1 :=
  let main_v0 : FVec F S256 .f32 := Host.absf main_arg3
  let main_cst : FVec F S_ .f32 := constant S_ .f32 0x7F800000#32
  let main_v1 : FVec F S256 .f32 := broadcastInDim S256 ![] bcast_S_S256 main_cst
  let main_v2 : IVec S256 1 := cmpf .olt main_v0 main_v1
  let main_c : IVec S_ 1 := constantI S_ 1 1#1
  let main_v3 : IVec S_ 1 := (fun x v => Host.reduce IntOp.andi x v reducesTo_S256_S_d0 h_S_) main_v2 main_c
  let main_v4 : FVec F S256 .f32 := Host.absf main_arg4
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S64 .f32 := Host.absf main_arg7
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S4x1216x4096 : Shape := ⟨3, ![4, 1216, 4096]⟩
abbrev S4x3x4096 : Shape := ⟨3, ![4, 3, 4096]⟩
abbrev S256x1216 : Shape := ⟨2, ![256, 1216]⟩
abbrev S256 : Shape := ⟨1, ![256]⟩
abbrev S64x256 : Shape := ⟨2, ![64, 256]⟩
abbrev S64 : Shape := ⟨1, ![64]⟩
abbrev S128x128 : Shape := ⟨2, ![128, 128]⟩
abbrev S128 : Shape := ⟨1, ![128]⟩
abbrev S1216x256 : Shape := ⟨2, ![1216, 256]⟩
abbrev S4x4096x256 : Shape := ⟨3, ![4, 4096, 256]⟩
abbrev S8x256 : Shape := ⟨2, ![8, 256]⟩
abbrev S1x1216x512 : Shape := ⟨3, ![1, 1216, 512]⟩
abbrev S1x512x256 : Shape := ⟨3, ![1, 512, 256]⟩
abbrev S1216x512 : Shape := ⟨2, ![1216, 512]⟩
abbrev S512x256 : Shape := ⟨2, ![512, 256]⟩
abbrev S1x256 : Shape := ⟨2, ![1, 256]⟩
abbrev S_ : Shape := ⟨0, ![]⟩
abbrev S1x1x256 : Shape := ⟨3, ![1, 1, 256]⟩
abbrev S4x4096x64 : Shape := ⟨3, ![4, 4096, 64]⟩
abbrev S1x1x64 : Shape := ⟨3, ![1, 1, 64]⟩
abbrev S4x64x4096 : Shape := ⟨3, ![4, 64, 4096]⟩
abbrev S4x4096x3 : Shape := ⟨3, ![4, 4096, 3]⟩
abbrev S4x4096 : Shape := ⟨2, ![4, 4096]⟩
abbrev S4x4096x4096 : Shape := ⟨3, ![4, 4096, 4096]⟩
abbrev S4x4096x1 : Shape := ⟨3, ![4, 4096, 1]⟩
abbrev S4x1x4096 : Shape := ⟨3, ![4, 1, 4096]⟩
abbrev S4x4096x20 : Shape := ⟨3, ![4, 4096, 20]⟩
abbrev S4x4096x20x1 : Shape := ⟨4, ![4, 4096, 20, 1]⟩
abbrev S4x4096x20x64 : Shape := ⟨4, ![4, 4096, 20, 64]⟩
abbrev S4x4096x1x64 : Shape := ⟨4, ![4, 4096, 1, 64]⟩
abbrev S4x4096x20x128 : Shape := ⟨4, ![4, 4096, 20, 128]⟩
abbrev S4x128x4096x20 : Shape := ⟨4, ![4, 128, 4096, 20]⟩
abbrev S1x128x1x1 : Shape := ⟨4, ![1, 128, 1, 1]⟩
abbrev S4x128x4096 : Shape := ⟨3, ![4, 128, 4096]⟩

abbrev nBuf : Space → Nat
  | .hbm => 194
  | .vmem => 6
  | .smem => 0
  | _ => 0

abbrev hbmTy0_0 (i : Nat) : BufTy := match i % 128 with
  | 0 => ⟨S4x1216x4096, .f32⟩
  | 1 => ⟨S4x3x4096, .f32⟩
  | 2 => ⟨S256x1216, .f32⟩
  | 3 => ⟨S256, .f32⟩
  | 4 => ⟨S256, .f32⟩
  | 5 => ⟨S256, .f32⟩
  | 6 => ⟨S64x256, .f32⟩
  | 7 => ⟨S64, .f32⟩
  | 8 => ⟨S64, .f32⟩
  | 9 => ⟨S64, .f32⟩
  | 10 => ⟨S128x128, .f32⟩
  | 11 => ⟨S128, .f32⟩
  | 12 => ⟨S128, .f32⟩
  | 13 => ⟨S128, .f32⟩
  | 14 => ⟨S1216x256, .f32⟩
  | 15 => ⟨S4x4096x256, .f32⟩
  | 16 => ⟨S8x256, .f32⟩
  | 17 => ⟨S1x256, .f32⟩
  | 18 => ⟨S256, .f32⟩
  | 19 => ⟨S_, .f32⟩
  | 20 => ⟨S256, .f32⟩
  | 21 => ⟨S256, .f32⟩
  | 22 => ⟨S1x256, .f32⟩
  | 23 => ⟨S256, .f32⟩
  | 24 => ⟨S_, .f32⟩
  | 25 => ⟨S256, .f32⟩
  | 26 => ⟨S256, .f32⟩
  | 27 => ⟨S256, .f32⟩
  | 28 => ⟨S256, .f32⟩
  | 29 => ⟨S_, .f32⟩
  | 30 => ⟨S256, .f32⟩
  | 31 => ⟨S256, .f32⟩
  | 32 => ⟨S256, .f32⟩
  | 33 => ⟨S256, .f32⟩
  | 34 => ⟨S256, .f32⟩
  | 35 => ⟨S256, .f32⟩
  | 36 => ⟨S1x1x256, .f32⟩
  | 37 => ⟨S4x4096x256, .f32⟩
  | 38 => ⟨S4x4096x256, .f32⟩
  | 39 => ⟨S1x1x256, .f32⟩
  | 40 => ⟨S4x4096x256, .f32⟩
  | 41 => ⟨S4x4096x256, .f32⟩
  | 42 => ⟨S_, .f32⟩
  | 43 => ⟨S_, .f32⟩
  | 44 => ⟨S4x4096x256, .f32⟩
  | 45 => ⟨S4x4096x256, .i1⟩
  | 46 => ⟨S_, .f32⟩
  | 47 => ⟨S4x4096x256, .f32⟩
  | 48 => ⟨S4x4096x256, .f32⟩
  | 49 => ⟨S4x4096x256, .f32⟩
  | 50 => ⟨S4x4096x64, .f32⟩
  | 51 => ⟨S_, .f32⟩
  | 52 => ⟨S64, .f32⟩
  | 53 => ⟨S_, .f32⟩
  | 54 => ⟨S64, .f32⟩
  | 55 => ⟨S64, .f32⟩
  | 56 => ⟨S_, .i32⟩
  | 57 => ⟨S_, .f32⟩
  | 58 => ⟨S64, .f32⟩
  | 59 => ⟨S1x1x64, .f32⟩
  | 60 => ⟨S_, .f32⟩
  | 61 => ⟨S1x1x64, .f32⟩
  | 62 => ⟨S1x1x64, .f32⟩
  | 63 => ⟨S4x4096x64, .f32⟩
  | 64 => ⟨S4x4096x64, .f32⟩
  | 65 => ⟨S4x4096x64, .f32⟩
  | 66 => ⟨S_, .f32⟩
  | 67 => ⟨S_, .f32⟩
  | 68 => ⟨S_, .f32⟩
  | 69 => ⟨S_, .f32⟩
  | 70 => ⟨S64, .f32⟩
  | 71 => ⟨S64, .f32⟩
  | 72 => ⟨S64, .f32⟩
  | 73 => ⟨S_, .f32⟩
  | 74 => ⟨S_, .i1⟩
  | 75 => ⟨S_, .f32⟩
  | 76 => ⟨S_, .f32⟩
  | 77 => ⟨S64, .f32⟩
  | 78 => ⟨S64, .f32⟩
  | 79 => ⟨S1x1x64, .f32⟩
  | 80 => ⟨S4x4096x64, .f32⟩
  | 81 => ⟨S4x4096x64, .f32⟩
  | 82 => ⟨S_, .f32⟩
  | 83 => ⟨S64, .f32⟩
  | 84 => ⟨S64, .f32⟩
  | 85 => ⟨S64, .f32⟩
  | 86 => ⟨S1x1x64, .f32⟩
  | 87 => ⟨S4x4096x64, .f32⟩
  | 88 => ⟨S4x4096x64, .f32⟩
  | 89 => ⟨S1x1x64, .f32⟩
  | 90 => ⟨S4x4096x64, .f32⟩
  | 91 => ⟨S4x4096x64, .f32⟩
  | 92 => ⟨S1x1x64, .f32⟩
  | 93 => ⟨S4x4096x64, .f32⟩
  | 94 => ⟨S4x4096x64, .f32⟩
  | 95 => ⟨S_, .f32⟩
  | 96 => ⟨S_, .f32⟩
  | 97 => ⟨S4x4096x64, .f32⟩
  | 98 => ⟨S4x4096x64, .i1⟩
  | 99 => ⟨S_, .f32⟩
  | 100 => ⟨S4x4096x64, .f32⟩
  | 101 => ⟨S4x4096x64, .f32⟩
  | 102 => ⟨S4x4096x64, .f32⟩
  | 103 => ⟨S4x64x4096, .f32⟩
  | 104 => ⟨S4x4096x3, .f32⟩
  | 105 => ⟨S4x4096x3, .f32⟩
  | 106 => ⟨S_, .f32⟩
  | 107 => ⟨S4x4096, .f32⟩
  | 108 => ⟨S4x4096x4096, .f32⟩
  | 109 => ⟨S4x4096x1, .f32⟩
  | 110 => ⟨S_, .f32⟩
  | 111 => ⟨S4x4096x4096, .f32⟩
  | 112 => ⟨S4x4096x4096, .f32⟩
  | 113 => ⟨S4x4096x4096, .f32⟩
  | 114 => ⟨S4x4096x4096, .f32⟩
  | 115 => ⟨S4x1x4096, .f32⟩
  | 116 => ⟨S4x4096x4096, .f32⟩
  | 117 => ⟨S4x4096x4096, .f32⟩
  | 118 => ⟨S4x4096x4096, .f32⟩
  | 119 => ⟨S4x4096x20, .f32⟩
  | 120 => ⟨S4x4096x20, .i32⟩
  | 121 => ⟨S4x4096x64, .f32⟩
  | 122 => ⟨S_, .i32⟩
  | 123 => ⟨S4x4096x20, .i32⟩
  | 124 => ⟨S4x4096x20, .i1⟩
  | 125 => ⟨S_, .i32⟩
  | 126 => ⟨S4x4096x20, .i32⟩
  | 127 => ⟨S4x4096x20, .i32⟩
  | _ => ⟨S4x1216x4096, .f32⟩

abbrev hbmTy0_1 (i : Nat) : BufTy := match i % 128 with
  | 0 => ⟨S4x4096x20, .i32⟩
  | 1 => ⟨S4x4096x20x1, .i32⟩
  | 2 => ⟨S4x4096x20x64, .f32⟩
  | 3 => ⟨S4x4096x1x64, .f32⟩
  | 4 => ⟨S4x4096x20x64, .f32⟩
  | 5 => ⟨S4x4096x20x64, .f32⟩
  | 6 => ⟨S4x4096x20x128, .f32⟩
  | 7 => ⟨S4x4096x20x128, .f32⟩
  | 8 => ⟨S4x128x4096x20, .f32⟩
  | 9 => ⟨S1x128x1x1, .f32⟩
  | 10 => ⟨S4x128x4096x20, .f32⟩
  | 11 => ⟨S4x128x4096x20, .f32⟩
  | 12 => ⟨S_, .f32⟩
  | 13 => ⟨S128, .f32⟩
  | 14 => ⟨S1x128x1x1, .f32⟩
  | 15 => ⟨S_, .f32⟩
  | 16 => ⟨S1x128x1x1, .f32⟩
  | 17 => ⟨S1x128x1x1, .f32⟩
  | 18 => ⟨S_, .i32⟩
  | 19 => ⟨S_, .f32⟩
  | 20 => ⟨S128, .f32⟩
  | 21 => ⟨S1x128x1x1, .f32⟩
  | 22 => ⟨S_, .f32⟩
  | 23 => ⟨S1x128x1x1, .f32⟩
  | 24 => ⟨S1x128x1x1, .f32⟩
  | 25 => ⟨S4x128x4096x20, .f32⟩
  | 26 => ⟨S4x128x4096x20, .f32⟩
  | 27 => ⟨S4x128x4096x20, .f32⟩
  | 28 => ⟨S_, .f32⟩
  | 29 => ⟨S_, .f32⟩
  | 30 => ⟨S_, .f32⟩
  | 31 => ⟨S_, .f32⟩
  | 32 => ⟨S128, .f32⟩
  | 33 => ⟨S1x128x1x1, .f32⟩
  | 34 => ⟨S1x128x1x1, .f32⟩
  | 35 => ⟨S1x128x1x1, .f32⟩
  | 36 => ⟨S_, .f32⟩
  | 37 => ⟨S_, .i1⟩
  | 38 => ⟨S_, .f32⟩
  | 39 => ⟨S_, .f32⟩
  | 40 => ⟨S1x128x1x1, .f32⟩
  | 41 => ⟨S1x128x1x1, .f32⟩
  | 42 => ⟨S4x128x4096x20, .f32⟩
  | 43 => ⟨S4x128x4096x20, .f32⟩
  | 44 => ⟨S_, .f32⟩
  | 45 => ⟨S1x128x1x1, .f32⟩
  | 46 => ⟨S1x128x1x1, .f32⟩
  | 47 => ⟨S1x128x1x1, .f32⟩
  | 48 => ⟨S4x128x4096x20, .f32⟩
  | 49 => ⟨S4x128x4096x20, .f32⟩
  | 50 => ⟨S1x128x1x1, .f32⟩
  | 51 => ⟨S4x128x4096x20, .f32⟩
  | 52 => ⟨S4x128x4096x20, .f32⟩
  | 53 => ⟨S1x128x1x1, .f32⟩
  | 54 => ⟨S4x128x4096x20, .f32⟩
  | 55 => ⟨S4x128x4096x20, .f32⟩
  | 56 => ⟨S_, .f32⟩
  | 57 => ⟨S_, .f32⟩
  | 58 => ⟨S4x128x4096x20, .f32⟩
  | 59 => ⟨S4x128x4096x20, .i1⟩
  | 60 => ⟨S_, .f32⟩
  | 61 => ⟨S4x128x4096x20, .f32⟩
  | 62 => ⟨S4x128x4096x20, .f32⟩
  | 63 => ⟨S4x128x4096x20, .f32⟩
  | 64 => ⟨S_, .f32⟩
  | 65 => ⟨S4x128x4096, .f32⟩
  | _ => ⟨S4x1216x4096, .f32⟩

abbrev hbmTy (i : Nat) : BufTy := match i / 128 with
  | 0 => hbmTy0_0 i
  | 1 => hbmTy0_1 i
  | _ => ⟨S4x1216x4096, .f32⟩

abbrev bufTy : (tb : Table) → Fin (tcTables nBuf tb) → BufTy
  | .hbm, ⟨i, _⟩ => hbmTy i
  | .local _ .vmem, ⟨0, _⟩ => ⟨S1x1216x512, .f32⟩
  | .local _ .vmem, ⟨1, _⟩ => ⟨S1x1216x512, .f32⟩
  | .local _ .vmem, ⟨2, _⟩ => ⟨S1216x256, .f32⟩
  | .local _ .vmem, ⟨3, _⟩ => ⟨S1x512x256, .f32⟩
  | .local _ .vmem, ⟨4, _⟩ => ⟨S1x512x256, .f32⟩
  | .local _ .vmem, ⟨5, _⟩ => ⟨S8x256, .f32⟩
  | _, _ => ⟨S4x1216x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1_0 : Ref sig .tc := ⟨.hbm, 15, rfl⟩
abbrev main_v1_1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_2 : Ref sig .tc := ⟨.hbm, 42, rfl⟩
abbrev main_call0_cst : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v24 : Ref sig .tc := ⟨.hbm, 49, rfl⟩
abbrev main_v25 : Ref sig .tc := ⟨.hbm, 50, rfl⟩
abbrev main_cst_3 : Ref sig .tc := ⟨.hbm, 51, rfl⟩
abbrev main_v26 : Ref sig .tc := ⟨.hbm, 52, rfl⟩
abbrev main_cst_4 : Ref sig .tc := ⟨.hbm, 53, rfl⟩
abbrev main_v27 : Ref sig .tc := ⟨.hbm, 54, rfl⟩
abbrev main_v28 : Ref sig .tc := ⟨.hbm, 55, rfl⟩
abbrev main_c : Ref sig .tc := ⟨.hbm, 56, rfl⟩
abbrev main_call1_cst : Ref sig .tc := ⟨.hbm, 57, rfl⟩
abbrev main_call1_v0 : Ref sig .tc := ⟨.hbm, 58, rfl⟩
abbrev main_call1_v1 : Ref sig .tc := ⟨.hbm, 59, rfl⟩
abbrev main_call1_cst_0 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_v6 : Ref sig .tc := ⟨.hbm, 65, rfl⟩
abbrev main_call1_v7 : Ref sig .tc := ⟨.hbm, 66, rfl⟩
abbrev main_call1_cst_1 : Ref sig .tc := ⟨.hbm, 67, rfl⟩
abbrev main_call1_v8 : Ref sig .tc := ⟨.hbm, 68, rfl⟩
abbrev main_call1_cst_2 : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_call1_cst_3 : Ref sig .tc := ⟨.hbm, 73, rfl⟩
abbrev main_call1_v12 : Ref sig .tc := ⟨.hbm, 74, rfl⟩
abbrev main_call1_cst_4 : Ref sig .tc := ⟨.hbm, 75, rfl⟩
abbrev main_call1_call0_v0 : Ref sig .tc := ⟨.hbm, 76, rfl⟩
abbrev main_call1_call0_v1 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_cst_5 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_cst_6 : Ref sig .tc := ⟨.hbm, 95, rfl⟩
abbrev main_call2_cst : Ref sig .tc := ⟨.hbm, 96, rfl⟩
abbrev main_call2_v0 : Ref sig .tc := ⟨.hbm, 97, rfl⟩
abbrev main_call2_v1 : Ref sig .tc := ⟨.hbm, 98, rfl⟩
abbrev main_call2_v2 : Ref sig .tc := ⟨.hbm, 99, rfl⟩
abbrev main_call2_v3 : Ref sig .tc := ⟨.hbm, 100, rfl⟩
abbrev main_call2_v4 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_cst_7 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_cst_8 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_values : Ref sig .tc := ⟨.hbm, 119, rfl⟩
abbrev main_indices : Ref sig .tc := ⟨.hbm, 120, rfl⟩
abbrev main_v60 : Ref sig .tc := ⟨.hbm, 121, rfl⟩
abbrev main_c_9 : Ref sig .tc := ⟨.hbm, 122, rfl⟩
abbrev main_v61 : Ref sig .tc := ⟨.hbm, 123, rfl⟩
abbrev main_v62 : Ref sig .tc := ⟨.hbm, 124, rfl⟩
abbrev main_c_10 : Ref sig .tc := ⟨.hbm, 125, rfl⟩
abbrev main_v63 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_cst_11 : Ref sig .tc := ⟨.hbm, 140, rfl⟩
abbrev main_v77 : Ref sig .tc := ⟨.hbm, 141, rfl⟩
abbrev main_v78 : Ref sig .tc := ⟨.hbm, 142, rfl⟩
abbrev main_cst_12 : Ref sig .tc := ⟨.hbm, 143, rfl⟩
abbrev main_v79 : Ref sig .tc := ⟨.hbm, 144, rfl⟩
abbrev main_v80 : Ref sig .tc := ⟨.hbm, 145, rfl⟩
abbrev main_c_13 : Ref sig .tc := ⟨.hbm, 146, rfl⟩
abbrev main_call3_cst : Ref sig .tc := ⟨.hbm, 147, rfl⟩
abbrev main_call3_v0 : Ref sig .tc := ⟨.hbm, 148, rfl⟩
abbrev main_call3_v1 : Ref sig .tc := ⟨.hbm, 149, rfl⟩
abbrev main_call3_cst_0 : Ref sig .tc := ⟨.hbm, 150, rfl⟩
abbrev main_call3_v2 : Ref sig .tc := ⟨.hbm, 151, rfl⟩
abbrev main_call3_v3 : Ref sig .tc := ⟨.hbm, 152, rfl⟩
abbrev main_call3_v4 : Ref sig .tc := ⟨.hbm, 153, rfl⟩
abbrev main_call3_v5 : Ref sig .tc := ⟨.hbm, 154, rfl⟩
abbrev main_call3_v6 : Ref sig .tc := ⟨.hbm, 155, rfl⟩
abbrev main_call3_v7 : Ref sig .tc := ⟨.hbm, 156, rfl⟩
abbrev main_call3_cst_1 : Ref sig .tc := ⟨.hbm, 157, rfl⟩
abbrev main_call3_v8 : Ref sig .tc := ⟨.hbm, 158, rfl⟩
abbrev main_call3_cst_2 : Ref sig .tc := ⟨.hbm, 159, rfl⟩
abbrev main_call3_v9 : Ref sig .tc := ⟨.hbm, 160, rfl⟩
abbrev main_call3_v10 : Ref sig .tc := ⟨.hbm, 161, rfl⟩
abbrev main_call3_v11 : Ref sig .tc := ⟨.hbm, 162, rfl⟩
abbrev main_call3_v12 : Ref sig .tc := ⟨.hbm, 163, rfl⟩
abbrev main_call3_cst_3 : Ref sig .tc := ⟨.hbm, 164, rfl⟩
abbrev main_call3_v13 : Ref sig .tc := ⟨.hbm, 165, rfl⟩
abbrev main_call3_cst_4 : Ref sig .tc := ⟨.hbm, 166, rfl⟩
abbrev main_call3_call0_v0 : Ref sig .tc := ⟨.hbm, 167, rfl⟩
abbrev main_call3_call0_v1 : Ref sig .tc := ⟨.hbm, 168, rfl⟩
abbrev main_v81 : Ref sig .tc := ⟨.hbm, 169, rfl⟩
abbrev main_v82 : Ref sig .tc := ⟨.hbm, 170, rfl⟩
abbrev main_v83 : Ref sig .tc := ⟨.hbm, 171, rfl⟩
abbrev main_cst_14 : Ref sig .tc := ⟨.hbm, 172, rfl⟩
abbrev main_v84 : Ref sig .tc := ⟨.hbm, 173, rfl⟩
abbrev main_v85 : Ref sig .tc := ⟨.hbm, 174, rfl⟩
abbrev main_v86 : Ref sig .tc := ⟨.hbm, 175, rfl⟩
abbrev main_v87 : Ref sig .tc := ⟨.hbm, 176, rfl⟩
abbrev main_v88 : Ref sig .tc := ⟨.hbm, 177, rfl⟩
abbrev main_v89 : Ref sig .tc := ⟨.hbm, 178, rfl⟩
abbrev main_v90 : Ref sig .tc := ⟨.hbm, 179, rfl⟩
abbrev main_v91 : Ref sig .tc := ⟨.hbm, 180, rfl⟩
abbrev main_v92 : Ref sig .tc := ⟨.hbm, 181, rfl⟩
abbrev main_v93 : Ref sig .tc := ⟨.hbm, 182, rfl⟩
abbrev main_v94 : Ref sig .tc := ⟨.hbm, 183, rfl⟩
abbrev main_cst_15 : Ref sig .tc := ⟨.hbm, 184, rfl⟩
abbrev main_call4_cst : Ref sig .tc := ⟨.hbm, 185, rfl⟩
abbrev main_call4_v0 : Ref sig .tc := ⟨.hbm, 186, rfl⟩
abbrev main_call4_v1 : Ref sig .tc := ⟨.hbm, 187, rfl⟩
abbrev main_call4_v2 : Ref sig .tc := ⟨.hbm, 188, rfl⟩
abbrev main_call4_v3 : Ref sig .tc := ⟨.hbm, 189, rfl⟩
abbrev main_call4_v4 : Ref sig .tc := ⟨.hbm, 190, rfl⟩
abbrev main_v95 : Ref sig .tc := ⟨.hbm, 191, rfl⟩
abbrev main_cst_16 : Ref sig .tc := ⟨.hbm, 192, rfl⟩
abbrev main_v96 : Ref sig .tc := ⟨.hbm, 193, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1216x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1216x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]
-- ==== ReferenceIdeal.lean ====
abbrev S4x1216x4096 : Shape := ⟨3, ![4, 1216, 4096]⟩
abbrev S4x3x4096 : Shape := ⟨3, ![4, 3, 4096]⟩
abbrev S256x1216 : Shape := ⟨2, ![256, 1216]⟩
abbrev S256 : Shape := ⟨1, ![256]⟩
abbrev S64x256 : Shape := ⟨2, ![64, 256]⟩
abbrev S64 : Shape := ⟨1, ![64]⟩
abbrev S128x128 : Shape := ⟨2, ![128, 128]⟩
abbrev S128 : Shape := ⟨1, ![128]⟩
abbrev S4x4096x256 : Shape := ⟨3, ![4, 4096, 256]⟩
abbrev S4x256x4096 : Shape := ⟨3, ![4, 256, 4096]⟩
abbrev S1x256x1 : Shape := ⟨3, ![1, 256, 1]⟩
abbrev S_ : Shape := ⟨0, ![]⟩
abbrev S4x4096x64 : Shape := ⟨3, ![4, 4096, 64]⟩
abbrev S4x64x4096 : Shape := ⟨3, ![4, 64, 4096]⟩
abbrev S1x64x1 : Shape := ⟨3, ![1, 64, 1]⟩
abbrev S4x4096x3 : Shape := ⟨3, ![4, 4096, 3]⟩
abbrev S4x4096 : Shape := ⟨2, ![4, 4096]⟩
abbrev S4x4096x4096 : Shape := ⟨3, ![4, 4096, 4096]⟩
abbrev S4x4096x1 : Shape := ⟨3, ![4, 4096, 1]⟩
abbrev S4x1x4096 : Shape := ⟨3, ![4, 1, 4096]⟩
abbrev S4x4096x20 : Shape := ⟨3, ![4, 4096, 20]⟩
abbrev S4x4096x20x1 : Shape := ⟨4, ![4, 4096, 20, 1]⟩
abbrev S4x4096x20x64 : Shape := ⟨4, ![4, 4096, 20, 64]⟩
abbrev S4x4096x1x64 : Shape := ⟨4, ![4, 4096, 1, 64]⟩
abbrev S4x4096x20x128 : Shape := ⟨4, ![4, 4096, 20, 128]⟩
abbrev S4x128x4096x20 : Shape := ⟨4, ![4, 128, 4096, 20]⟩
abbrev S1x128x1x1 : Shape := ⟨4, ![1, 128, 1, 1]⟩
abbrev S4x128x4096 : Shape := ⟨3, ![4, 128, 4096]⟩

abbrev nBuf : Space → Nat
  | .hbm => 218
  | .vmem => 0
  | .smem => 0
  | _ => 0

abbrev hbmTy0_0 (i : Nat) : BufTy := match i % 128 with
  | 0 => ⟨S4x1216x4096, .f32⟩
  | 1 => ⟨S4x3x4096, .f32⟩
  | 2 => ⟨S256x1216, .f32⟩
  | 3 => ⟨S256, .f32⟩
  | 4 => ⟨S256, .f32⟩
  | 5 => ⟨S256, .f32⟩
  | 6 => ⟨S64x256, .f32⟩
  | 7 => ⟨S64, .f32⟩
  | 8 => ⟨S64, .f32⟩
  | 9 => ⟨S64, .f32⟩
  | 10 => ⟨S128x128, .f32⟩
  | 11 => ⟨S128, .f32⟩
  | 12 => ⟨S128, .f32⟩
  | 13 => ⟨S128, .f32⟩
  | 14 => ⟨S4x4096x256, .f32⟩
  | 15 => ⟨S4x256x4096, .f32⟩
  | 16 => ⟨S1x256x1, .f32⟩
  | 17 => ⟨S4x256x4096, .f32⟩
  | 18 => ⟨S4x256x4096, .f32⟩
  | 19 => ⟨S_, .f32⟩
  | 20 => ⟨S256, .f32⟩
  | 21 => ⟨S1x256x1, .f32⟩
  | 22 => ⟨S_, .f32⟩
  | 23 => ⟨S1x256x1, .f32⟩
  | 24 => ⟨S1x256x1, .f32⟩
  | 25 => ⟨S_, .i32⟩
  | 26 => ⟨S_, .f32⟩
  | 27 => ⟨S256, .f32⟩
  | 28 => ⟨S1x256x1, .f32⟩
  | 29 => ⟨S_, .f32⟩
  | 30 => ⟨S1x256x1, .f32⟩
  | 31 => ⟨S1x256x1, .f32⟩
  | 32 => ⟨S4x256x4096, .f32⟩
  | 33 => ⟨S4x256x4096, .f32⟩
  | 34 => ⟨S4x256x4096, .f32⟩
  | 35 => ⟨S_, .f32⟩
  | 36 => ⟨S_, .f32⟩
  | 37 => ⟨S_, .f32⟩
  | 38 => ⟨S_, .f32⟩
  | 39 => ⟨S256, .f32⟩
  | 40 => ⟨S1x256x1, .f32⟩
  | 41 => ⟨S1x256x1, .f32⟩
  | 42 => ⟨S1x256x1, .f32⟩
  | 43 => ⟨S_, .f32⟩
  | 44 => ⟨S_, .i1⟩
  | 45 => ⟨S_, .f32⟩
  | 46 => ⟨S_, .f32⟩
  | 47 => ⟨S1x256x1, .f32⟩
  | 48 => ⟨S1x256x1, .f32⟩
  | 49 => ⟨S4x256x4096, .f32⟩
  | 50 => ⟨S4x256x4096, .f32⟩
  | 51 => ⟨S_, .f32⟩
  | 52 => ⟨S1x256x1, .f32⟩
  | 53 => ⟨S1x256x1, .f32⟩
  | 54 => ⟨S1x256x1, .f32⟩
  | 55 => ⟨S4x256x4096, .f32⟩
  | 56 => ⟨S4x256x4096, .f32⟩
  | 57 => ⟨S1x256x1, .f32⟩
  | 58 => ⟨S4x256x4096, .f32⟩
  | 59 => ⟨S4x256x4096, .f32⟩
  | 60 => ⟨S1x256x1, .f32⟩
  | 61 => ⟨S4x256x4096, .f32⟩
  | 62 => ⟨S4x256x4096, .f32⟩
  | 63 => ⟨S_, .f32⟩
  | 64 => ⟨S_, .f32⟩
  | 65 => ⟨S4x256x4096, .f32⟩
  | 66 => ⟨S4x256x4096, .i1⟩
  | 67 => ⟨S_, .f32⟩
  | 68 => ⟨S4x256x4096, .f32⟩
  | 69 => ⟨S4x256x4096, .f32⟩
  | 70 => ⟨S4x256x4096, .f32⟩
  | 71 => ⟨S4x4096x64, .f32⟩
  | 72 => ⟨S4x64x4096, .f32⟩
  | 73 => ⟨S1x64x1, .f32⟩
  | 74 => ⟨S4x64x4096, .f32⟩
  | 75 => ⟨S4x64x4096, .f32⟩
  | 76 => ⟨S_, .f32⟩
  | 77 => ⟨S64, .f32⟩
  | 78 => ⟨S1x64x1, .f32⟩
  | 79 => ⟨S_, .f32⟩
  | 80 => ⟨S1x64x1, .f32⟩
  | 81 => ⟨S1x64x1, .f32⟩
  | 82 => ⟨S_, .i32⟩
  | 83 => ⟨S_, .f32⟩
  | 84 => ⟨S64, .f32⟩
  | 85 => ⟨S1x64x1, .f32⟩
  | 86 => ⟨S_, .f32⟩
  | 87 => ⟨S1x64x1, .f32⟩
  | 88 => ⟨S1x64x1, .f32⟩
  | 89 => ⟨S4x64x4096, .f32⟩
  | 90 => ⟨S4x64x4096, .f32⟩
  | 91 => ⟨S4x64x4096, .f32⟩
  | 92 => ⟨S_, .f32⟩
  | 93 => ⟨S_, .f32⟩
  | 94 => ⟨S_, .f32⟩
  | 95 => ⟨S_, .f32⟩
  | 96 => ⟨S64, .f32⟩
  | 97 => ⟨S1x64x1, .f32⟩
  | 98 => ⟨S1x64x1, .f32⟩
  | 99 => ⟨S1x64x1, .f32⟩
  | 100 => ⟨S_, .f32⟩
  | 101 => ⟨S_, .i1⟩
  | 102 => ⟨S_, .f32⟩
  | 103 => ⟨S_, .f32⟩
  | 104 => ⟨S1x64x1, .f32⟩
  | 105 => ⟨S1x64x1, .f32⟩
  | 106 => ⟨S4x64x4096, .f32⟩
  | 107 => ⟨S4x64x4096, .f32⟩
  | 108 => ⟨S_, .f32⟩
  | 109 => ⟨S1x64x1, .f32⟩
  | 110 => ⟨S1x64x1, .f32⟩
  | 111 => ⟨S1x64x1, .f32⟩
  | 112 => ⟨S4x64x4096, .f32⟩
  | 113 => ⟨S4x64x4096, .f32⟩
  | 114 => ⟨S1x64x1, .f32⟩
  | 115 => ⟨S4x64x4096, .f32⟩
  | 116 => ⟨S4x64x4096, .f32⟩
  | 117 => ⟨S1x64x1, .f32⟩
  | 118 => ⟨S4x64x4096, .f32⟩
  | 119 => ⟨S4x64x4096, .f32⟩
  | 120 => ⟨S_, .f32⟩
  | 121 => ⟨S_, .f32⟩
  | 122 => ⟨S4x64x4096, .f32⟩
  | 123 => ⟨S4x64x4096, .i1⟩
  | 124 => ⟨S_, .f32⟩
  | 125 => ⟨S4x64x4096, .f32⟩
  | 126 => ⟨S4x64x4096, .f32⟩
  | 127 => ⟨S4x64x4096, .f32⟩
  | _ => ⟨S4x1216x4096, .f32⟩

abbrev hbmTy0_1 (i : Nat) : BufTy := match i % 128 with
  | 0 => ⟨S4x4096x3, .f32⟩
  | 1 => ⟨S4x4096x3, .f32⟩
  | 2 => ⟨S_, .f32⟩
  | 3 => ⟨S4x4096, .f32⟩
  | 4 => ⟨S4x4096x4096, .f32⟩
  | 5 => ⟨S4x4096x1, .f32⟩
  | 6 => ⟨S_, .f32⟩
  | 7 => ⟨S4x4096x4096, .f32⟩
  | 8 => ⟨S4x4096x4096, .f32⟩
  | 9 => ⟨S4x4096x4096, .f32⟩
  | 10 => ⟨S4x4096x4096, .f32⟩
  | 11 => ⟨S4x1x4096, .f32⟩
  | 12 => ⟨S4x4096x4096, .f32⟩
  | 13 => ⟨S4x4096x4096, .f32⟩
  | 14 => ⟨S4x4096x4096, .f32⟩
  | 15 => ⟨S4x4096x20, .f32⟩
  | 16 => ⟨S4x4096x20, .i32⟩
  | 17 => ⟨S4x4096x64, .f32⟩
  | 18 => ⟨S_, .i32⟩
  | 19 => ⟨S4x4096x20, .i32⟩
  | 20 => ⟨S4x4096x20, .i1⟩
  | 21 => ⟨S_, .i32⟩
  | 22 => ⟨S4x4096x20, .i32⟩
  | 23 => ⟨S4x4096x20, .i32⟩
  | 24 => ⟨S4x4096x20, .i32⟩
  | 25 => ⟨S4x4096x20x1, .i32⟩
  | 26 => ⟨S4x4096x20x64, .f32⟩
  | 27 => ⟨S4x4096x1x64, .f32⟩
  | 28 => ⟨S4x4096x20x64, .f32⟩
  | 29 => ⟨S4x4096x20x64, .f32⟩
  | 30 => ⟨S4x4096x20x128, .f32⟩
  | 31 => ⟨S4x4096x20x128, .f32⟩
  | 32 => ⟨S4x128x4096x20, .f32⟩
  | 33 => ⟨S1x128x1x1, .f32⟩
  | 34 => ⟨S4x128x4096x20, .f32⟩
  | 35 => ⟨S4x128x4096x20, .f32⟩
  | 36 => ⟨S_, .f32⟩
  | 37 => ⟨S128, .f32⟩
  | 38 => ⟨S1x128x1x1, .f32⟩
  | 39 => ⟨S_, .f32⟩
  | 40 => ⟨S1x128x1x1, .f32⟩
  | 41 => ⟨S1x128x1x1, .f32⟩
  | 42 => ⟨S_, .i32⟩
  | 43 => ⟨S_, .f32⟩
  | 44 => ⟨S128, .f32⟩
  | 45 => ⟨S1x128x1x1, .f32⟩
  | 46 => ⟨S_, .f32⟩
  | 47 => ⟨S1x128x1x1, .f32⟩
  | 48 => ⟨S1x128x1x1, .f32⟩
  | 49 => ⟨S4x128x4096x20, .f32⟩
  | 50 => ⟨S4x128x4096x20, .f32⟩
  | 51 => ⟨S4x128x4096x20, .f32⟩
  | 52 => ⟨S_, .f32⟩
  | 53 => ⟨S_, .f32⟩
  | 54 => ⟨S_, .f32⟩
  | 55 => ⟨S_, .f32⟩
  | 56 => ⟨S128, .f32⟩
  | 57 => ⟨S1x128x1x1, .f32⟩
  | 58 => ⟨S1x128x1x1, .f32⟩
  | 59 => ⟨S1x128x1x1, .f32⟩
  | 60 => ⟨S_, .f32⟩
  | 61 => ⟨S_, .i1⟩
  | 62 => ⟨S_, .f32⟩
  | 63 => ⟨S_, .f32⟩
  | 64 => ⟨S1x128x1x1, .f32⟩
  | 65 => ⟨S1x128x1x1, .f32⟩
  | 66 => ⟨S4x128x4096x20, .f32⟩
  | 67 => ⟨S4x128x4096x20, .f32⟩
  | 68 => ⟨S_, .f32⟩
  | 69 => ⟨S1x128x1x1, .f32⟩
  | 70 => ⟨S1x128x1x1, .f32⟩
  | 71 => ⟨S1x128x1x1, .f32⟩
  | 72 => ⟨S4x128x4096x20, .f32⟩
  | 73 => ⟨S4x128x4096x20, .f32⟩
  | 74 => ⟨S1x128x1x1, .f32⟩
  | 75 => ⟨S4x128x4096x20, .f32⟩
  | 76 => ⟨S4x128x4096x20, .f32⟩
  | 77 => ⟨S1x128x1x1, .f32⟩
  | 78 => ⟨S4x128x4096x20, .f32⟩
  | 79 => ⟨S4x128x4096x20, .f32⟩
  | 80 => ⟨S_, .f32⟩
  | 81 => ⟨S_, .f32⟩
  | 82 => ⟨S4x128x4096x20, .f32⟩
  | 83 => ⟨S4x128x4096x20, .i1⟩
  | 84 => ⟨S_, .f32⟩
  | 85 => ⟨S4x128x4096x20, .f32⟩
  | 86 => ⟨S4x128x4096x20, .f32⟩
  | 87 => ⟨S4x128x4096x20, .f32⟩
  | 88 => ⟨S_, .f32⟩
  | 89 => ⟨S4x128x4096, .f32⟩
  | _ => ⟨S4x1216x4096, .f32⟩

abbrev hbmTy (i : Nat) : BufTy := match i / 128 with
  | 0 => hbmTy0_0 i
  | 1 => hbmTy0_1 i
  | _ => ⟨S4x1216x4096, .f32⟩

abbrev bufTy : (tb : Table) → Fin (tcTables nBuf tb) → BufTy
  | .hbm, ⟨i, _⟩ => hbmTy i
  | _, _ => ⟨S4x1216x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_cst_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_cst_1 : Ref sig .tc := ⟨.hbm, 36, rfl⟩
abbrev main_call0_v8 : Ref sig .tc := ⟨.hbm, 37, rfl⟩
abbrev main_call0_cst_2 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_v12 : Ref sig .tc := ⟨.hbm, 42, rfl⟩
abbrev main_call0_cst_3 : Ref sig .tc := ⟨.hbm, 43, rfl⟩
abbrev main_call0_v13 : Ref sig .tc := ⟨.hbm, 44, rfl⟩
abbrev main_call0_cst_4 : Ref sig .tc := ⟨.hbm, 45, rfl⟩
abbrev main_call0_call0_v0 : Ref sig .tc := ⟨.hbm, 46, rfl⟩
abbrev main_call0_call0_v1 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst_1 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_cst_2 : Ref sig .tc := ⟨.hbm, 63, rfl⟩
abbrev main_call1_cst : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_cst_3 : Ref sig .tc := ⟨.hbm, 76, rfl⟩
abbrev main_v29 : Ref sig .tc := ⟨.hbm, 77, rfl⟩
abbrev main_v30 : Ref sig .tc := ⟨.hbm, 78, rfl⟩
abbrev main_cst_4 : Ref sig .tc := ⟨.hbm, 79, rfl⟩
abbrev main_v31 : Ref sig .tc := ⟨.hbm, 80, rfl⟩
abbrev main_v32 : Ref sig .tc := ⟨.hbm, 81, rfl⟩
abbrev main_c_5 : Ref sig .tc := ⟨.hbm, 82, rfl⟩
abbrev main_call2_cst : Ref sig .tc := ⟨.hbm, 83, rfl⟩
abbrev main_call2_v0 : Ref sig .tc := ⟨.hbm, 84, rfl⟩
abbrev main_call2_v1 : Ref sig .tc := ⟨.hbm, 85, rfl⟩
abbrev main_call2_cst_0 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_call2_v5 : Ref sig .tc := ⟨.hbm, 90, rfl⟩
abbrev main_call2_v6 : Ref sig .tc := ⟨.hbm, 91, rfl⟩
abbrev main_call2_v7 : Ref sig .tc := ⟨.hbm, 92, rfl⟩
abbrev main_call2_cst_1 : Ref sig .tc := ⟨.hbm, 93, rfl⟩
abbrev main_call2_v8 : Ref sig .tc := ⟨.hbm, 94, rfl⟩
abbrev main_call2_cst_2 : Ref sig .tc := ⟨.hbm, 95, rfl⟩
abbrev main_call2_v9 : Ref sig .tc := ⟨.hbm, 96, rfl⟩
abbrev main_call2_v10 : Ref sig .tc := ⟨.hbm, 97, rfl⟩
abbrev main_call2_v11 : Ref sig .tc := ⟨.hbm, 98, rfl⟩
abbrev main_call2_v12 : Ref sig .tc := ⟨.hbm, 99, rfl⟩
abbrev main_call2_cst_3 : Ref sig .tc := ⟨.hbm, 100, rfl⟩
abbrev main_call2_v13 : Ref sig .tc := ⟨.hbm, 101, rfl⟩
abbrev main_call2_cst_4 : Ref sig .tc := ⟨.hbm, 102, rfl⟩
abbrev main_call2_call0_v0 : Ref sig .tc := ⟨.hbm, 103, rfl⟩
abbrev main_call2_call0_v1 : Ref sig .tc := ⟨.hbm, 104, rfl⟩
abbrev main_v33 : Ref sig .tc := ⟨.hbm, 105, rfl⟩
abbrev main_v34 : Ref sig .tc := ⟨.hbm, 106, rfl⟩
abbrev main_v35 : Ref sig .tc := ⟨.hbm, 107, rfl⟩
abbrev main_cst_6 : Ref sig .tc := ⟨.hbm, 108, rfl⟩
abbrev main_v36 : Ref sig .tc := ⟨.hbm, 109, rfl⟩
abbrev main_v37 : Ref sig .tc := ⟨.hbm, 110, rfl⟩
abbrev main_v38 : Ref sig .tc := ⟨.hbm, 111, rfl⟩
abbrev main_v39 : Ref sig .tc := ⟨.hbm, 112, rfl⟩
abbrev main_v40 : Ref sig .tc := ⟨.hbm, 113, rfl⟩
abbrev main_v41 : Ref sig .tc := ⟨.hbm, 114, rfl⟩
abbrev main_v42 : Ref sig .tc := ⟨.hbm, 115, rfl⟩
abbrev main_v43 : Ref sig .tc := ⟨.hbm, 116, rfl⟩
abbrev main_v44 : Ref sig .tc := ⟨.hbm, 117, rfl⟩
abbrev main_v45 : Ref sig .tc := ⟨.hbm, 118, rfl⟩
abbrev main_v46 : Ref sig .tc := ⟨.hbm, 119, rfl⟩
abbrev main_cst_7 : Ref sig .tc := ⟨.hbm, 120, rfl⟩
abbrev main_call3_cst : Ref sig .tc := ⟨.hbm, 121, rfl⟩
abbrev main_call3_v0 : Ref sig .tc := ⟨.hbm, 122, rfl⟩
abbrev main_call3_v1 : Ref sig .tc := ⟨.hbm, 123, rfl⟩
abbrev main_call3_v2 : Ref sig .tc := ⟨.hbm, 124, rfl⟩
abbrev main_call3_v3 : Ref sig .tc := ⟨.hbm, 125, rfl⟩
abbrev main_call3_v4 : Ref sig .tc := ⟨.hbm, 126, rfl⟩
abbrev main_v47 : Ref sig .tc := ⟨.hbm, 127, rfl⟩
abbrev main_v48 : Ref sig .tc := ⟨.hbm, 128, rfl⟩
abbrev main_v49 : Ref sig .tc := ⟨.hbm, 129, rfl⟩
abbrev main_cst_8 : Ref sig .tc := ⟨.hbm, 130, rfl⟩
abbrev main_v50 : Ref sig .tc := ⟨.hbm, 131, rfl⟩
abbrev main_v51 : Ref sig .tc := ⟨.hbm, 132, rfl⟩
abbrev main_v52 : Ref sig .tc := ⟨.hbm, 133, rfl⟩
abbrev main_cst_9 : Ref sig .tc := ⟨.hbm, 134, rfl⟩
abbrev main_v53 : Ref sig .tc := ⟨.hbm, 135, rfl⟩
abbrev main_v54 : Ref sig .tc := ⟨.hbm, 136, rfl⟩
abbrev main_v55 : Ref sig .tc := ⟨.hbm, 137, rfl⟩
abbrev main_v56 : Ref sig .tc := ⟨.hbm, 138, rfl⟩
abbrev main_v57 : Ref sig .tc := ⟨.hbm, 139, rfl⟩
abbrev main_v58 : Ref sig .tc := ⟨.hbm, 140, rfl⟩
abbrev main_v59 : Ref sig .tc := ⟨.hbm, 141, rfl⟩
abbrev main_v60 : Ref sig .tc := ⟨.hbm, 142, rfl⟩
abbrev main_values : Ref sig .tc := ⟨.hbm, 143, rfl⟩
abbrev main_indices : Ref sig .tc := ⟨.hbm, 144, rfl⟩
abbrev main_v61 : Ref sig .tc := ⟨.hbm, 145, rfl⟩
abbrev main_c_10 : Ref sig .tc := ⟨.hbm, 146, rfl⟩
abbrev main_v62 : Ref sig .tc := ⟨.hbm, 147, rfl⟩
abbrev main_v63 : Ref sig .tc := ⟨.hbm, 148, rfl⟩
abbrev main_c_11 : Ref sig .tc := ⟨.hbm, 149, rfl⟩
abbrev main_v64 : Ref sig .tc := ⟨.hbm, 150, rfl⟩
abbrev main_v65 : Ref sig .tc := ⟨.hbm, 151, rfl⟩
abbrev main_v66 : Ref sig .tc := ⟨.hbm, 152, rfl⟩
abbrev main_v67 : Ref sig .tc := ⟨.hbm, 153, rfl⟩
abbrev main_v68 : Ref sig .tc := ⟨.hbm, 154, rfl⟩
abbrev main_v69 : Ref sig .tc := ⟨.hbm, 155, rfl⟩
abbrev main_v70 : Ref sig .tc := ⟨.hbm, 156, rfl⟩
abbrev main_v71 : Ref sig .tc := ⟨.hbm, 157, rfl⟩
abbrev main_v72 : Ref sig .tc := ⟨.hbm, 158, rfl⟩
abbrev main_v73 : Ref sig .tc := ⟨.hbm, 159, rfl⟩
abbrev main_v74 : Ref sig .tc := ⟨.hbm, 160, rfl⟩
abbrev main_v75 : Ref sig .tc := ⟨.hbm, 161, rfl⟩
abbrev main_v76 : Ref sig .tc := ⟨.hbm, 162, rfl⟩
abbrev main_v77 : Ref sig .tc := ⟨.hbm, 163, rfl⟩
abbrev main_cst_12 : Ref sig .tc := ⟨.hbm, 164, rfl⟩
abbrev main_v78 : Ref sig .tc := ⟨.hbm, 165, rfl⟩
abbrev main_v79 : Ref sig .tc := ⟨.hbm, 166, rfl⟩
abbrev main_cst_13 : Ref sig .tc := ⟨.hbm, 167, rfl⟩
abbrev main_v80 : Ref sig .tc := ⟨.hbm, 168, rfl⟩
abbrev main_v81 : Ref sig .tc := ⟨.hbm, 169, rfl⟩
abbrev main_c_14 : Ref sig .tc := ⟨.hbm, 170, rfl⟩
abbrev main_call4_cst : Ref sig .tc := ⟨.hbm, 171, rfl⟩
abbrev main_call4_v0 : Ref sig .tc := ⟨.hbm, 172, rfl⟩
abbrev main_call4_v1 : Ref sig .tc := ⟨.hbm, 173, rfl⟩
abbrev main_call4_cst_0 : Ref sig .tc := ⟨.hbm, 174, rfl⟩
abbrev main_call4_v2 : Ref sig .tc := ⟨.hbm, 175, rfl⟩
abbrev main_call4_v3 : Ref sig .tc := ⟨.hbm, 176, rfl⟩
abbrev main_call4_v4 : Ref sig .tc := ⟨.hbm, 177, rfl⟩
abbrev main_call4_v5 : Ref sig .tc := ⟨.hbm, 178, rfl⟩
abbrev main_call4_v6 : Ref sig .tc := ⟨.hbm, 179, rfl⟩
abbrev main_call4_v7 : Ref sig .tc := ⟨.hbm, 180, rfl⟩
abbrev main_call4_cst_1 : Ref sig .tc := ⟨.hbm, 181, rfl⟩
abbrev main_call4_v8 : Ref sig .tc := ⟨.hbm, 182, rfl⟩
abbrev main_call4_cst_2 : Ref sig .tc := ⟨.hbm, 183, rfl⟩
abbrev main_call4_v9 : Ref sig .tc := ⟨.hbm, 184, rfl⟩
abbrev main_call4_v10 : Ref sig .tc := ⟨.hbm, 185, rfl⟩
abbrev main_call4_v11 : Ref sig .tc := ⟨.hbm, 186, rfl⟩
abbrev main_call4_v12 : Ref sig .tc := ⟨.hbm, 187, rfl⟩
abbrev main_call4_cst_3 : Ref sig .tc := ⟨.hbm, 188, rfl⟩
abbrev main_call4_v13 : Ref sig .tc := ⟨.hbm, 189, rfl⟩
abbrev main_call4_cst_4 : Ref sig .tc := ⟨.hbm, 190, rfl⟩
abbrev main_call4_call0_v0 : Ref sig .tc := ⟨.hbm, 191, rfl⟩
abbrev main_call4_call0_v1 : Ref sig .tc := ⟨.hbm, 192, rfl⟩
abbrev main_v82 : Ref sig .tc := ⟨.hbm, 193, rfl⟩
abbrev main_v83 : Ref sig .tc := ⟨.hbm, 194, rfl⟩
abbrev main_v84 : Ref sig .tc := ⟨.hbm, 195, rfl⟩
abbrev main_cst_15 : Ref sig .tc := ⟨.hbm, 196, rfl⟩
abbrev main_v85 : Ref sig .tc := ⟨.hbm, 197, rfl⟩
abbrev main_v86 : Ref sig .tc := ⟨.hbm, 198, rfl⟩
abbrev main_v87 : Ref sig .tc := ⟨.hbm, 199, rfl⟩
abbrev main_v88 : Ref sig .tc := ⟨.hbm, 200, rfl⟩
abbrev main_v89 : Ref sig .tc := ⟨.hbm, 201, rfl⟩
abbrev main_v90 : Ref sig .tc := ⟨.hbm, 202, rfl⟩
abbrev main_v91 : Ref sig .tc := ⟨.hbm, 203, rfl⟩
abbrev main_v92 : Ref sig .tc := ⟨.hbm, 204, rfl⟩
abbrev main_v93 : Ref sig .tc := ⟨.hbm, 205, rfl⟩
abbrev main_v94 : Ref sig .tc := ⟨.hbm, 206, rfl⟩
abbrev main_v95 : Ref sig .tc := ⟨.hbm, 207, rfl⟩
abbrev main_cst_16 : Ref sig .tc := ⟨.hbm, 208, rfl⟩
abbrev main_call5_cst : Ref sig .tc := ⟨.hbm, 209, rfl⟩
abbrev main_call5_v0 : Ref sig .tc := ⟨.hbm, 210, rfl⟩
abbrev main_call5_v1 : Ref sig .tc := ⟨.hbm, 211, rfl⟩
abbrev main_call5_v2 : Ref sig .tc := ⟨.hbm, 212, rfl⟩
abbrev main_call5_v3 : Ref sig .tc := ⟨.hbm, 213, rfl⟩
abbrev main_call5_v4 : Ref sig .tc := ⟨.hbm, 214, rfl⟩
abbrev main_v96 : Ref sig .tc := ⟨.hbm, 215, rfl⟩
abbrev main_cst_17 : Ref sig .tc := ⟨.hbm, 216, rfl⟩
abbrev main_v97 : Ref sig .tc := ⟨.hbm, 217, rfl⟩

abbrev nD : Nat := 1
abbrev τ : Topo := Topo.v7x

variable {F : FTy → Type} [FloatOps F]
-- ==== Proof.Norm.lean ====
/-
  Batch normalisation over the extended reals.

  For one channel the entries `y i` range over a finite index set. The kernel normalises from the sum and the sum of
  squares and folds the result into one multiplication and one addition; the reference subtracts the mean, divides by the
  deviation, scales and shifts, after a bias has been added. Both are stated here over one channel, and shown equal for
  every extended-real `y`, as long as the bias and the scale are real.
-/
module

public import Idealize.ShloMosaic.PureOps.Ideal
public import Mathlib.Data.EReal.Operations
public import Mathlib.Tactic.FieldSimp
public import Mathlib.Tactic.LinearCombination
public import Mathlib.Algebra.BigOperators.Field

@[expose] public section

noncomputable section

namespace Cert.Norm

open Idealize.ShloMosaic
open scoped BigOperators

variable {ι : Type} [Fintype ι]

/-- An extended real is infinite. -/
def Inf (x : EReal) : Prop := x = ⊤ ∨ x = ⊥

/-- An infinite summand makes a sum infinite. -/
theorem Inf.add_left {x : EReal} (h : Inf x) (y : EReal) : Inf (x + y) := by
  rcases h with rfl | rfl
  · induction y using EReal.rec with
    | bot => right; simp
    | coe r => left; exact EReal.top_add_coe r
    | top => left; rfl
  · right; simp

/-- A difference with an infinite right-hand side is infinite. -/
theorem Inf.sub_right {m : EReal} (h : Inf m) (x : EReal) : Inf (x - m) := by
  rw [sub_eq_add_neg, add_comm]
  refine Inf.add_left ?_ x
  rcases h with rfl | rfl
  · right; rfl
  · left; rfl

/-- The square of an infinite number is `⊤`. -/
theorem Inf.mul_self {x : EReal} (h : Inf x) : x * x = ⊤ := by
  rcases h with rfl | rfl
  · exact EReal.top_mul_top
  · exact EReal.bot_mul_bot

/-- An infinite number stays infinite when a real is added. -/
theorem Inf.add_coe {x : EReal} (h : Inf x) (b : ℝ) : Inf (x + b) := Inf.add_left h _

/-- A sum with an infinite entry is infinite. -/
theorem inf_sum (s : Finset ι) (f : ι → EReal) {k : ι} (hk : k ∈ s) (h : Inf (f k)) : Inf (∑ i ∈ s, f i) := by
  classical
  rw [← Finset.add_sum_erase s f hk]
  exact Inf.add_left h _

/-- A sum of squares with an infinite entry is `⊤`. -/
theorem sum_sq_top (f : ι → EReal) {k : ι} (h : Inf (f k)) : ∑ i, f i * f i = ⊤ := by
  classical
  rw [← Finset.add_sum_erase Finset.univ _ (Finset.mem_univ k), h.mul_self]
  refine EReal.top_add_of_ne_bot ?_
  have h0 : (0 : EReal) ≤ ∑ i ∈ Finset.univ.erase k, f i * f i := Finset.sum_nonneg fun i _ => by
    induction f i using EReal.rec with
    | bot => simp
    | coe r => rw [← EReal.coe_mul]; exact EReal.coe_nonneg.mpr (mul_self_nonneg r)
    | top => simp
  exact ne_of_gt (lt_of_lt_of_le EReal.bot_lt_zero h0)

/-- A number that is not infinite is a real. -/
theorem exists_real {x : EReal} (h : ¬Inf x) : ∃ r : ℝ, x = r :=
  ⟨x.toReal, (EReal.coe_toReal (fun e => h (.inl e)) (fun e => h (.inr e))).symm⟩

/-- Division by a nonzero real is multiplication by its reciprocal. -/
theorem div_coe (x : EReal) {n : ℝ} (hn : n ≠ 0) : Ideal.div x n = x * (n⁻¹ : ℝ) := by
  rw [Ideal.div, if_neg (by exact_mod_cast hn), EReal.coe_inv]

/-- A quotient of reals by a nonzero real is the real quotient. -/
theorem div_coe_coe (x : ℝ) {n : ℝ} (hn : n ≠ 0) : Ideal.div (x : EReal) n = ((x / n : ℝ) : EReal) := by
  rw [div_coe _ hn, ← EReal.coe_mul, div_eq_mul_inv]

/-- An infinite number divided by a positive real is infinite. -/
theorem Inf.div {x : EReal} (h : Inf x) {n : ℝ} (hn : 0 < n) : Inf (Ideal.div x n) := by
  rw [div_coe _ hn.ne']
  have hp : 0 < n⁻¹ := inv_pos.mpr hn
  rcases h with rfl | rfl
  · left; exact EReal.top_mul_coe_of_pos hp
  · right; exact EReal.bot_mul_coe_of_pos hp

/-- Anything divided by an infinite number is zero. -/
theorem div_inf (x : EReal) {y : EReal} (h : Inf y) : Ideal.div x y = 0 := by
  rcases h with rfl | rfl
  · rw [Ideal.div, if_neg (by simp)]; simp
  · rw [Ideal.div, if_neg (by simp)]; simp

/-- The square root of a nonnegative real. -/
theorem sqrt_coe {r : ℝ} (h : 0 ≤ r) : Ideal.sqrt (r : EReal) = (Real.sqrt r : EReal) := by
  show (if r < 0 then (⊥ : EReal) else (Real.sqrt r : EReal)) = _
  rw [if_neg (not_lt.mpr h)]

/-! ## The mean and the variance of one channel -/

/-- The mean of the entries `y`, `n` of them. -/
def mean (y : ι → EReal) (n : ℝ) : EReal := Ideal.div (∑ i, y i) n

/-- The kernel's variance: the mean of the squares less the square of the mean. -/
def varK (y : ι → EReal) (n : ℝ) : EReal := Ideal.div (∑ i, y i * y i) n - mean y n * mean y n

/-- The reference's variance: the mean of the squared differences from the mean. -/
def varR (y : ι → EReal) (n : ℝ) : EReal := Ideal.div (∑ i, (y i - mean y n) * (y i - mean y n)) n

/-- A real sum, as an extended real. -/
theorem coe_sum (f : ι → ℝ) : ((∑ i, f i : ℝ) : EReal) = ∑ i, (f i : EReal) := by
  exact map_sum (⟨⟨fun x : ℝ => (x : EReal), EReal.coe_zero⟩, fun a b => EReal.coe_add a b⟩ : ℝ →+ EReal) f Finset.univ

/-- The mean of the entries shifted by a real `b` is the mean shifted by `b`, whatever extended reals the entries are. -/
theorem mean_add (y : ι → EReal) (b : ℝ) {n : ℝ} (hn : 0 < n) (hc : (Fintype.card ι : ℝ) = n) :
    mean (fun i => y i + b) n = mean y n + b := by
  unfold mean
  have hb : ∑ _i : ι, (b : EReal) = ((n * b : ℝ) : EReal) := by
    rw [← coe_sum (fun _ : ι => b), Finset.sum_const, Finset.card_univ, nsmul_eq_mul, hc]
  rw [div_coe _ hn.ne', div_coe _ hn.ne', Finset.sum_add_distrib, hb, EReal.right_distrib_of_nonneg_of_ne_top (EReal.coe_nonneg.mpr (inv_pos.mpr hn).le) (EReal.coe_ne_top _), ← EReal.coe_mul]
  congr 2
  field_simp

/-- The differences from the mean do not see a real shift, whatever extended reals the entries are. -/
theorem sub_mean_add (y : ι → EReal) (b : ℝ) {n : ℝ} (hn : 0 < n) (hc : (Fintype.card ι : ℝ) = n) (j : ι) :
    y j + b - mean (fun i => y i + b) n = y j - mean y n := by
  rw [mean_add y b hn hc]
  have h : -(mean y n + (b : EReal)) = -mean y n + -(b : EReal) := by
    rw [EReal.neg_add (.inr (EReal.coe_ne_top b)) (.inr (EReal.coe_ne_bot b)), sub_eq_add_neg]
  rw [sub_eq_add_neg, h, sub_eq_add_neg]
  have hb : (b : EReal) + -(b : EReal) = 0 := by rw [← EReal.coe_neg, ← EReal.coe_add]; simp
  rw [add_add_add_comm, hb, add_zero]

/-- Nor does the reference's variance. -/
theorem varR_add (y : ι → EReal) (b : ℝ) {n : ℝ} (hn : 0 < n) (hc : (Fintype.card ι : ℝ) = n) :
    varR (fun i => y i + b) n = varR y n := by
  unfold varR
  simp only [sub_mean_add y b hn hc]

/-! ## The two normalisations -/

/-- One entry normalised as the reference writes it. -/
def normR (y : ι → EReal) (n e : ℝ) (g be : EReal) (j : ι) : EReal :=
  Ideal.div (y j - mean y n) (Ideal.sqrt (varR y n + e)) * g + be

/-- The kernel's folded scale. -/
def scaleK (y : ι → EReal) (n e : ℝ) (g : EReal) : EReal := Ideal.div g (Ideal.sqrt (varK y n + e))

/-- One entry normalised as the kernel writes it. -/
def normK (y : ι → EReal) (n e : ℝ) (g be : EReal) (j : ι) : EReal :=
  y j * scaleK y n e g + (be - mean y n * scaleK y n e g)

/-- The reference's normalisation does not see a real bias added to every entry. -/
theorem normR_add (y : ι → EReal) (b : ℝ) {n : ℝ} (e : ℝ) (g be : EReal) (hn : 0 < n) (hc : (Fintype.card ι : ℝ) = n) (j : ι) :
    normR (fun i => y i + b) n e g be j = normR y n e g be j := by
  unfold normR
  rw [sub_mean_add y b hn hc, varR_add y b hn hc]

/-- With an infinite entry in the channel the reference's normalisation is the shift `be` everywhere. -/
theorem normR_inf (y : ι → EReal) {n : ℝ} (e : ℝ) (g be : EReal) (hn : 0 < n) {k : ι} (h : Inf (y k)) (j : ι) :
    normR y n e g be j = be := by
  have hm : Inf (mean y n) := (inf_sum _ y (Finset.mem_univ k) h).div hn
  have hv : varR y n = ⊤ := by
    unfold varR
    rw [sum_sq_top (fun i => y i - mean y n) (k := k) (hm.sub_right _), div_coe _ hn.ne']
    exact EReal.top_mul_coe_of_pos (inv_pos.mpr hn)
  unfold normR
  rw [hv, EReal.top_add_coe, show Ideal.sqrt ⊤ = ⊤ from rfl, div_inf _ (.inl rfl), zero_mul, zero_add]

/-- With an infinite entry in the channel so is the kernel's. -/
theorem normK_inf (y : ι → EReal) {n : ℝ} (e : ℝ) (g be : EReal) (hn : 0 < n) {k : ι} (h : Inf (y k)) (j : ι) :
    normK y n e g be j = be := by
  have hm : Inf (mean y n) := (inf_sum _ y (Finset.mem_univ k) h).div hn
  have hv : varK y n = ⊥ := by
    unfold varK
    rw [hm.mul_self, sub_eq_add_neg, EReal.neg_top, EReal.add_bot]
  unfold normK scaleK
  rw [hv, EReal.bot_add, show Ideal.sqrt ⊥ = ⊥ from rfl, div_inf _ (.inr rfl), mul_zero, mul_zero, sub_zero, zero_add]

/-- Over reals the mean is the real mean. -/
theorem mean_coe (r : ι → ℝ) {n : ℝ} (hn : 0 < n) :
    mean (fun i => (r i : EReal)) n = (((∑ i, r i) / n : ℝ) : EReal) := by
  unfold mean; rw [← coe_sum, div_coe_coe _ hn.ne']

/-- Over reals the reference's variance is the real variance. -/
theorem varR_coe (r : ι → ℝ) {n : ℝ} (hn : 0 < n) :
    varR (fun i => (r i : EReal)) n = (((∑ i, (r i - (∑ i, r i) / n) * (r i - (∑ i, r i) / n)) / n : ℝ) : EReal) := by
  unfold varR
  rw [mean_coe r hn]
  simp only [← EReal.coe_sub, ← EReal.coe_mul]
  rw [← coe_sum, div_coe_coe _ hn.ne']

/-- Over reals the two variances agree. -/
theorem varK_coe (r : ι → ℝ) {n : ℝ} (hn : 0 < n) (hc : (Fintype.card ι : ℝ) = n) :
    varK (fun i => (r i : EReal)) n = varR (fun i => (r i : EReal)) n := by
  rw [varR_coe r hn]
  unfold varK
  rw [mean_coe r hn]
  simp only [← EReal.coe_mul]
  rw [← coe_sum, div_coe_coe _ hn.ne', ← EReal.coe_sub]
  congr 1
  have key : ∑ i, (r i - (∑ i, r i) / n) * (r i - (∑ i, r i) / n)
      = ∑ i, r i * r i - 2 * ((∑ i, r i) / n) * (∑ i, r i) + n * (((∑ i, r i) / n) * ((∑ i, r i) / n)) := by
    have : ∀ i, (r i - (∑ i, r i) / n) * (r i - (∑ i, r i) / n)
        = r i * r i - 2 * ((∑ i, r i) / n) * r i + ((∑ i, r i) / n) * ((∑ i, r i) / n) := fun i => by ring
    simp only [this]
    rw [Finset.sum_add_distrib, Finset.sum_sub_distrib, ← Finset.mul_sum, Finset.sum_const, Finset.card_univ, nsmul_eq_mul, hc]
  rw [key]
  field_simp
  ring

/-- THE FIRST LAYER'S LAW. The kernel's folded normalisation of the entries `y` is the reference's normalisation of the
    entries `y` with the bias `b` added, for every extended-real `y` and shift `be`, the bias and the scale being real. -/
theorem normK_eq_normR (y : ι → EReal) (b g : ℝ) (be : EReal) {n e : ℝ} (hn : 0 < n) (he : 0 < e)
    (hc : (Fintype.card ι : ℝ) = n) (j : ι) :
    normK y n e g be j = normR (fun i => y i + b) n e g be j := by
  rw [normR_add y b e g be hn hc]
  by_cases h : ∃ k, Inf (y k)
  · obtain ⟨k, hk⟩ := h
    rw [normK_inf y e g be hn hk, normR_inf y e g be hn hk]
  · have hr : ∀ i, ∃ r : ℝ, y i = r := fun i => exists_real fun hi => h ⟨i, hi⟩
    choose r hr using hr
    obtain rfl : y = fun i => (r i : EReal) := funext hr
    unfold normK normR scaleK
    rw [varK_coe r hn hc, varR_coe r hn, mean_coe r hn]
    set m : ℝ := (∑ i, r i) / n
    have hv : 0 ≤ (∑ i, (r i - m) * (r i - m)) / n := div_nonneg (Finset.sum_nonneg fun i _ => mul_self_nonneg _) hn.le
    set v : ℝ := (∑ i, (r i - m) * (r i - m)) / n
    have hd : Real.sqrt (v + e) ≠ 0 := (Real.sqrt_pos.mpr (by linarith)).ne'
    rw [← EReal.coe_add, sqrt_coe (by linarith), div_coe_coe _ hd, ← EReal.coe_sub, div_coe_coe _ hd, ← EReal.coe_mul,
      ← EReal.coe_mul, ← EReal.coe_mul, sub_eq_add_neg, add_comm be, ← add_assoc, ← EReal.coe_neg, ← EReal.coe_add]
    congr 2
    ring

end Cert.Norm

end
-- ==== Proof.Reduce.lean ====
/-
  Sums over the first two axes, or the first and last, of an array of three axes; and the values of the constants.
-/
module

public import Idealize.ShloMosaic.Lib.Pointwise

@[expose] public section

noncomputable section

namespace Cert.Norm

open Idealize.ShloMosaic

/-- The sum over axes 0 and 1 of an array of three axes, at an index. -/
theorem reduce01 {n0 n1 n2 : ℕ} (h : (⟨3, ![n0, n1, n2]⟩ : Shape).ReducesTo [0, 1] ⟨1, ![n2]⟩)
    (v : (⟨3, ![n0, n1, n2]⟩ : Shape).Idx → EReal) (init : EReal) (j : (⟨1, ![n2]⟩ : Shape).Idx) :
    Ideal.hostReduceAdd h v init j = init + ∑ i : Fin n0 × Fin n1, v (ix3 i.1 i.2 (j 0)) := by
  refine congrArg (init + ·) (Finset.sum_bij' (fun i _ => (i 0, i 1)) (fun i _ => ix3 i.1 i.2 (j 0)) ?_ ?_ ?_ ?_ ?_)
  · exact fun _ _ => Finset.mem_univ _
  · intro i _
    refine Finset.mem_filter.mpr ⟨Finset.mem_univ _, funext fun b => Fin.ext ?_⟩
    match b with
    | ⟨0, _⟩ => rfl
  · intro i hi
    have e : h.drop i = j := (Finset.mem_filter.mp hi).2
    have e2 : i 2 = j 0 := Fin.ext (congrArg Fin.val (congrFun e 0))
    rw [← e2]
    exact (eq_ix3 i).symm
  · exact fun _ _ => rfl
  · intro i hi
    have e : h.drop i = j := (Finset.mem_filter.mp hi).2
    have e2 : i 2 = j 0 := Fin.ext (congrArg Fin.val (congrFun e 0))
    rw [← e2]
    exact congrArg v (eq_ix3 i)

/-- The sum over axes 0 and 2 of an array of three axes, at an index. -/
theorem reduce02 {n0 n1 n2 : ℕ} (h : (⟨3, ![n0, n1, n2]⟩ : Shape).ReducesTo [0, 2] ⟨1, ![n1]⟩)
    (v : (⟨3, ![n0, n1, n2]⟩ : Shape).Idx → EReal) (init : EReal) (j : (⟨1, ![n1]⟩ : Shape).Idx) :
    Ideal.hostReduceAdd h v init j = init + ∑ i : Fin n0 × Fin n2, v (ix3 i.1 (j 0) i.2) := by
  refine congrArg (init + ·) (Finset.sum_bij' (fun i _ => (i 0, i 2)) (fun i _ => ix3 i.1 (j 0) i.2) ?_ ?_ ?_ ?_ ?_)
  · exact fun _ _ => Finset.mem_univ _
  · intro i _
    refine Finset.mem_filter.mpr ⟨Finset.mem_univ _, funext fun b => Fin.ext ?_⟩
    match b with
    | ⟨0, _⟩ => rfl
  · intro i hi
    have e : h.drop i = j := (Finset.mem_filter.mp hi).2
    have e1 : i 1 = j 0 := Fin.ext (congrArg Fin.val (congrFun e 0))
    rw [← e1]
    exact (eq_ix3 i).symm
  · exact fun _ _ => rfl
  · intro i hi
    have e : h.drop i = j := (Finset.mem_filter.mp hi).2
    have e1 : i 1 = j 0 := Fin.ext (congrArg Fin.val (congrFun e 0))
    rw [← e1]
    exact congrArg v (eq_ix3 i)

/-- The number of batches and positions, as the programs' constant. -/
theorem count_bits : Ideal.ofBits .f32 0x46800000#32 = ((16384 : ℝ) : EReal) := by
  simp [Ideal.ofBits, Ideal.ieee, -EReal.coe_mul]
  norm_num

/-- The constant the variances are raised by. -/
theorem eps_bits : ∃ e : ℝ, 0 < e ∧ Ideal.ofBits .f32 0x3727C5AC#32 = (e : EReal) := by
  refine ⟨_, ?_, by simp [Ideal.ofBits, Ideal.ieee, -EReal.coe_mul]; rfl⟩
  norm_num

/-- That constant, as a real. -/
def eps : ℝ := eps_bits.choose

theorem eps_pos : 0 < eps := eps_bits.choose_spec.1
theorem eps_eq : Ideal.ofBits .f32 0x3727C5AC#32 = (eps : EReal) := eps_bits.choose_spec.2

/-- The divisor of the variances: the count less no degrees of freedom. -/
theorem count_sub : Ideal.ofBits .f32 0x46800000#32 - FloatOps.sitofp (F := Ideal) .f32 (0#32) = ((16384 : ℝ) : EReal) := by
  rw [count_bits]
  show ((16384 : ℝ) : EReal) - (((0#32 : BitVec 32).toInt : ℝ) : EReal) = _
  simp

theorem count_pos : (0 : EReal) < ((16384 : ℝ) : EReal) := EReal.coe_pos.mpr (by norm_num)

/-- The number of batches and positions is the constant. -/
theorem card_count : (Fintype.card (Fin 4 × Fin 4096) : ℝ) = 16384 := by
  rw [Fintype.card_prod, Fintype.card_fin, Fintype.card_fin]
  norm_num

/-- The activation: the entry itself where it is not negative, the constant times it elsewhere. -/
def act (a : EReal) : EReal := if 0 ≤ a then a else Ideal.ofBits .f32 0x3E4CCCCD#32 * a

/-- The constant under which an absolute value is finite. -/
theorem inf_bits : Ideal.ofBits .f32 0x7F800000#32 = ⊤ := by
  simp [Ideal.ofBits, Ideal.ieee]

end Cert.Norm
-- ==== Proof.Params.lean ====
/-
  What the precondition says: every entry of `b1`, `g1` and `b2` is a real number.
-/
module

public import proofs.«01_k».proof.Defs
public import proofs.«01_k».proof.Proof.Norm
public import proofs.«01_k».proof.Proof.Reduce
public import Idealize.ShloMosaic.Lib.ReduceAll

@[expose] public section

noncomputable section

namespace Cert.Params

open Cert.Pre_finite_params Idealize.ShloMosaic Cert.Norm

/-- The shape relations the precondition states. -/
instance facts : Cert.Pre_finite_params.Facts where
  bcast_S_S256 := by decide
  reducesTo_S256_S_d0 := by decide
  h_S_ := by decide
  bcast_S_S64 := by decide
  reducesTo_S64_S_d0 := by decide

instance : Subsingleton S_.Idx := ⟨fun _ _ => funext fun i => i.elim0⟩

/-- A number whose absolute value is below infinity is real. -/
theorem real_of_abs_lt {a : EReal} (h : Ideal.cmp .olt (max a (-a)) (Ideal.ofBits .f32 0x7F800000#32) = 1#1) : ∃ r : ℝ, a = r := by
  rw [inf_bits] at h
  refine exists_real fun hi => ?_
  rcases hi with rfl | rfl
  · simp [Ideal.cmp] at h
  · simp [Ideal.cmp] at h

/-- An array all of whose absolute values are below infinity has real entries. -/
theorem real_of_all {C : ℕ} (y : FVec Ideal ⟨1, ![C]⟩ .f32) (hb : S_.BroadcastsInDim ⟨1, ![C]⟩ (![] : Fin 0 → Fin 1))
    (hr : Shape.ReducesTo ⟨1, ![C]⟩ [0] S_) (hu : 0 < S_.numel) (j : S_.Idx)
    (h : Host.reduce IntOp.andi (cmpf .olt (Host.absf y) (broadcastInDim ⟨1, ![C]⟩ ![] hb (constant (F := Ideal) S_ .f32 0x7F800000#32)))
      (constantI S_ 1 1#1) hr hu j = 1#1) (i : (⟨1, ![C]⟩ : Shape).Idx) : ∃ r : ℝ, y i = r :=
  real_of_abs_lt (Host.reduce_andi_all _ _ _ _ j h i)

/-- THE PRECONDITION READ: where it is one, `b1`, `g1` and `b2` have real entries. -/
theorem read (a0 : FVec Ideal S4x1216x4096 .f32) (a1 : FVec Ideal S4x3x4096 .f32) (a2 : FVec Ideal S256x1216 .f32)
    (b1 g1 be1 : FVec Ideal S256 .f32) (a6 : FVec Ideal S64x256 .f32) (b2 a8 a9 : FVec Ideal S64 .f32)
    (a10 : FVec Ideal S128x128 .f32) (a11 a12 a13 : FVec Ideal S128 .f32)
    (h : fn (F := Ideal) a0 a1 a2 b1 g1 be1 a6 b2 a8 a9 a10 a11 a12 a13 = fun _ => 1#1) :
    (∀ i, ∃ r : ℝ, b1 i = r) ∧ (∀ i, ∃ r : ℝ, g1 i = r) ∧ (∀ i, ∃ r : ℝ, b2 i = r) := by
  have h := congrFun h (Shape.Idx.first (s := S_) (by decide))
  unfold fn at h
  obtain ⟨h12, h3⟩ := IntOp.andi_eq_one.1 h
  obtain ⟨h1, h2⟩ := IntOp.andi_eq_one.1 h12
  exact ⟨real_of_all b1 _ _ _ _ h1, real_of_all g1 _ _ _ _ h2, real_of_all b2 _ _ _ _ h3⟩

end Cert.Params

end
-- ==== Proof.Block.lean ====
/-
  What one point of the kernel's grid leaves in its two output blocks.

  The product block holds, at row `n` and column `o`, the sum over the channels of `x` times `w`. The statistics block's row 0
  gains the product's column sums and its row 1 the column sums of squares; at the first point the block starts at zero.
-/
module

public import proofs.«01_k».proof.Proof.Gen.KernelIdeal.Frame
public import Idealize.ShloMosaic.Lib.WritesUnit
public import Idealize.ShloMosaic.Lib.Pipeline.Value
public import Idealize.ShloMosaic.Lib.Pointwise
public import Idealize.ShloMosaic.Lib.Tactic

@[expose] public section

noncomputable section

namespace Cert.KernelIdeal.Block

open Cert.KernelIdeal Cert.KernelIdeal.Gen Idealize.ShloMosaic

theorem hz2 : (![0, 0] : Fin 2 → Nat) = fun _ => 0 := funext fun a => by fin_cases a <;> rfl
theorem hz3 : (![0, 0, 0] : Fin 3 → Nat) = fun _ => 0 := funext fun a => by fin_cases a <;> rfl

/-- One point's product at row `n`, column `o`. -/
def dot (x : Vec Ideal S1x1216x512 .f32) (w : Vec Ideal S1216x256 .f32) (n : Fin 512) (o : Fin 256) : EReal :=
  ∑ k : Fin 1216, x (ix3 0 k n) * w (ix2 k o)

/-- The body's product, at an index. -/
theorem pay2_apply (x : Vec Ideal S1x1216x512 .f32) (w : Vec Ideal S1216x256 .f32) (n : Fin 512) (o : Fin 256) :
    k0_pay2 (F := Ideal) x w (ix2 n o) = dot x w n o := by
  unfold dot
  pointwise [k0_pay2]

/-- The stored product block, at an index. -/
theorem pay3_apply (x : Vec Ideal S1x1216x512 .f32) (w : Vec Ideal S1216x256 .f32) (n : Fin 512) (o : Fin 256) :
    k0_pay3 (F := Ideal) x w (ix3 0 n o) = dot x w n o := by
  rw [← pay2_apply]
  pointwise [k0_pay3]

/-- The stored sums: what was there, plus the product's column sum. -/
theorem pay4_apply (x : Vec Ideal S1x1216x512 .f32) (w : Vec Ideal S1216x256 .f32) (v : Vec Ideal S1x256 .f32) (o : Fin 256) :
    k0_pay4 (F := Ideal) x w v (ix2 0 o) = v (ix2 0 o) + ∑ n : Fin 512, dot x w n o := by
  simp only [← pay2_apply]
  pointwise [k0_pay4]

/-- The stored sums of squares: what was there, plus the column sum of the product's squares. -/
theorem pay5_apply (x : Vec Ideal S1x1216x512 .f32) (w : Vec Ideal S1216x256 .f32) (v : Vec Ideal S1x256 .f32) (o : Fin 256) :
    k0_pay5 (F := Ideal) x w v (ix2 0 o) = v (ix2 0 o) + ∑ n : Fin 512, dot x w n o * dot x w n o := by
  simp only [← pay2_apply]
  pointwise [k0_pay5]

/-- The block the first point starts from is zero. -/
theorem pay1_apply (j : S8x256.Idx) : k0_pay1 (F := Ideal) j = 0 := by
  pointwise [k0_pay1]

section Rows

variable {κ : Kind} {sp : Space} (v : View sig κ sp S8x256 .f32) (f : v.ty.Contents (Elt Ideal)) (L : List (View.Piece (Elt Ideal) S8x256 .f32))

/-- A row just stored reads as stored. -/
theorem read_row {k : ℕ} (hk : k < 8) (inb : ∀ a, (![k, 0] : Fin 2 → ℕ) a + (![1, 256] : Fin 2 → ℕ) a ≤ S8x256.size a)
    (p : Vec Ideal S1x256 .f32) (o : Fin 256) :
    v.read (Elt Ideal) (v.writes (Elt Ideal) f ((⟨Rect.unit ![k, 0] ![1, 256] inb, p⟩ : View.Piece (Elt Ideal) S8x256 .f32) :: L))
      (ix2 ⟨k, hk⟩ o) = p (ix2 0 o) :=
  View.read_writes_cons_unit_of_mem v f inb p L (ix2 ⟨k, hk⟩ o : S8x256.Idx) (ix2 0 o : S1x256.Idx) rfl
    fun a => by
      match a with
      | ⟨0, _⟩ => rfl
      | ⟨1, _⟩ => exact (Nat.zero_add _).symm

/-- Another row reads as it did before the store. -/
theorem read_row_ne {k l : ℕ} (hl : l < 8) (hkl : l ≠ k)
    (inb : ∀ a, (![k, 0] : Fin 2 → ℕ) a + (![1, 256] : Fin 2 → ℕ) a ≤ S8x256.size a) (p : Vec Ideal S1x256 .f32) (o : Fin 256) :
    v.read (Elt Ideal) (v.writes (Elt Ideal) f ((⟨Rect.unit ![k, 0] ![1, 256] inb, p⟩ : View.Piece (Elt Ideal) S8x256 .f32) :: L))
      (ix2 ⟨l, hl⟩ o) = v.read (Elt Ideal) (v.writes (Elt Ideal) f L) (ix2 ⟨l, hl⟩ o) :=
  View.read_writes_cons_unit_of_not_mem v f inb p L (ix2 ⟨l, hl⟩ o : S8x256.Idx) rfl 0
    (show l < k ∨ k + 1 ≤ l by omega)

/-- After the whole block is stored, every row reads as stored. -/
theorem read_whole (inb : ∀ a, (![0, 0] : Fin 2 → ℕ) a + S8x256.size a ≤ S8x256.size a) (p : Vec Ideal S8x256 .f32) (j : S8x256.Idx) :
    v.read (Elt Ideal) (v.writes (Elt Ideal) f ((⟨Rect.unit ![0, 0] S8x256.size inb, p⟩ : View.Piece (Elt Ideal) S8x256 .f32) :: L)) j = p j :=
  View.read_writes_cons_unit_of_mem v f inb p L j j rfl
    fun a => by
      match a with
      | ⟨0, _⟩ => exact (Nat.zero_add _).symm
      | ⟨1, _⟩ => exact (Nat.zero_add _).symm

/-- A load of row `k` reads the contents at that row. -/
theorem load_row {k : ℕ} (hk : k < 8) (inb : ∀ a, (![k, 0] : Fin 2 → ℕ) a + (![1, 256] : Fin 2 → ℕ) a ≤ S8x256.size a) (o : Fin 256) :
    v.readAt (Elt Ideal) (Rect.unit (s := S8x256) ![k, 0] ![1, 256] inb).toLoadRect f (ix2 0 o) = v.read (Elt Ideal) f (ix2 ⟨k, hk⟩ o) :=
  congrArg (v.read (Elt Ideal) f) (funext fun a => Fin.ext (by
    match a with
    | ⟨0, _⟩ => rfl
    | ⟨1, _⟩ => show 0 + 1 * o.val = o.val; omega))

end Rows

variable (c : Dev nD) (i : grid0.Coords) (a2 : Memref sig .tc .vmem S1x1216x512 .f32) (h2 : a2.IsWhole)
  (a3 : Memref sig .tc .vmem S1216x256 .f32) (h3 : a3.IsWhole) (a4 : Memref sig .tc .vmem S1x512x256 .f32) (h4 : a4.IsWhole)
  (a5 : Memref sig .tc .vmem S8x256 .f32) (h5 : a5.IsWhole)
  (x : Vec Ideal S1x1216x512 .f32) (w : Vec Ideal S1216x256 .f32)

/-- The product block at the first point. -/
theorem outA_2 (hc : cond0_0 i) : out0_A_2 (F := Ideal) c i a2 h2 a3 h3 a4 h4 a5 h5 hc x w = k0_pay3 x w := by
  unfold out0_A_2
  rw [View.read_writes_eq_canon _ _ _ (cover0_A_2 c i a2 h2 a3 h3 a4 h4 a5 h5 hc x w)]
  unfold kernelRun0_A
  dsimp only
  rw [View.canon_unit_zero hz3]
  simp only [View.readAt_eq_ld, h2.read_unread, h3.read_unread, View.ld_unit_zero (S := S1x1216x512) hz3,
    View.ld_unit_zero (S := S1216x256) hz2]

/-- The product block at a later point. -/
theorem outB_2 (hc : ¬cond0_0 i) (s : Vec Ideal S8x256 .f32) :
    out0_B_2 (F := Ideal) c i a2 h2 a3 h3 a4 h4 a5 h5 hc x w s = k0_pay3 x w := by
  unfold out0_B_2
  rw [View.read_writes_eq_canon _ _ _ (cover0_B_2 c i a2 h2 a3 h3 a4 h4 a5 h5 hc x w s)]
  unfold kernelRun0_B
  dsimp only
  rw [View.canon_unit_zero hz3]
  simp only [View.readAt_eq_ld, h2.read_unread, h3.read_unread, View.ld_unit_zero (S := S1x1216x512) hz3,
    View.ld_unit_zero (S := S1216x256) hz2]

/-- Loads of the whole input blocks. -/
theorem load_x (inb : ∀ a, (![0, 0, 0] : Fin 3 → ℕ) a + S1x1216x512.size a ≤ S1x1216x512.size a) :
    a2.view.readAt (Elt Ideal) (Rect.unit (s := S1x1216x512) ![0, 0, 0] S1x1216x512.size inb).toLoadRect (h2.unread x) = x := by
  rw [View.readAt_eq_ld, h2.read_unread, View.ld_unit_zero (S := S1x1216x512) hz3]
theorem load_w (inb : ∀ a, (![0, 0] : Fin 2 → ℕ) a + S1216x256.size a ≤ S1216x256.size a) :
    a3.view.readAt (Elt Ideal) (Rect.unit (s := S1216x256) ![0, 0] S1216x256.size inb).toLoadRect (h3.unread w) = w := by
  rw [View.readAt_eq_ld, h3.read_unread, View.ld_unit_zero (S := S1216x256) hz2]

/-- The sums over what the block's row 0 held, the inputs loaded whole. -/
theorem pay4_loaded (inb2 inb3) (v : Vec Ideal S1x256 .f32) (o : Fin 256) (r : EReal) (hv : v (ix2 0 o) = r) :
    k0_pay4 (F := Ideal) (a2.view.readAt (Elt Ideal) (Rect.unit (s := S1x1216x512) ![0, 0, 0] S1x1216x512.size inb2).toLoadRect (h2.unread x))
      (a3.view.readAt (Elt Ideal) (Rect.unit (s := S1216x256) ![0, 0] S1216x256.size inb3).toLoadRect (h3.unread w)) v (ix2 0 o)
      = r + ∑ n : Fin 512, dot x w n o := by
  rw [load_x, load_w, pay4_apply, hv]

/-- The sums of squares over what the block's row 1 held, the inputs loaded whole. -/
theorem pay5_loaded (inb2 inb3) (v : Vec Ideal S1x256 .f32) (o : Fin 256) (r : EReal) (hv : v (ix2 0 o) = r) :
    k0_pay5 (F := Ideal) (a2.view.readAt (Elt Ideal) (Rect.unit (s := S1x1216x512) ![0, 0, 0] S1x1216x512.size inb2).toLoadRect (h2.unread x))
      (a3.view.readAt (Elt Ideal) (Rect.unit (s := S1216x256) ![0, 0] S1216x256.size inb3).toLoadRect (h3.unread w)) v (ix2 0 o)
      = r + ∑ n : Fin 512, dot x w n o * dot x w n o := by
  rw [load_x, load_w, pay5_apply, hv]

/-- Row 0 of the statistics block at a later point: what was there plus the column sum. -/
theorem outB_3_row0 (hc : ¬cond0_0 i) (s : Vec Ideal S8x256 .f32) (o : Fin 256) :
    out0_B_3 (F := Ideal) c i a2 h2 a3 h3 a4 h4 a5 h5 hc x w s (ix2 0 o) = s (ix2 0 o) + ∑ n : Fin 512, dot x w n o := by
  unfold out0_B_3 kernelRun0_B
  dsimp only
  refine (read_row_ne a5.view _ _ (k := 1) (l := 0) (by decide) (by decide) _ _ o).trans ?_
  refine (read_row a5.view _ _ (k := 0) (by decide) _ _ o).trans ?_
  refine pay4_loaded a2 h2 a3 h3 x w _ _ _ o _ ?_
  refine (load_row a5.view _ (k := 0) (by decide) _ o).trans ?_
  rw [h5.read_unread]
  rfl

/-- Row 1 of the statistics block at a later point: what was there plus the column sum of squares. -/
theorem outB_3_row1 (hc : ¬cond0_0 i) (s : Vec Ideal S8x256 .f32) (o : Fin 256) :
    out0_B_3 (F := Ideal) c i a2 h2 a3 h3 a4 h4 a5 h5 hc x w s (ix2 1 o)
      = s (ix2 1 o) + ∑ n : Fin 512, dot x w n o * dot x w n o := by
  unfold out0_B_3 kernelRun0_B
  dsimp only
  sl_unfold_words
  refine (read_row a5.view _ _ (k := 1) (by decide) _ _ o).trans ?_
  refine pay5_loaded a2 h2 a3 h3 x w _ _ _ o _ ?_
  refine (load_row a5.view _ (k := 1) (by decide) _ o).trans ?_
  rw [h5.read_unread]
  rfl

/-- Row 0 of the statistics block at the first point: the column sum. -/
theorem outA_3_row0 (hc : cond0_0 i) (o : Fin 256) :
    out0_A_3 (F := Ideal) c i a2 h2 a3 h3 a4 h4 a5 h5 hc x w (ix2 0 o) = ∑ n : Fin 512, dot x w n o := by
  unfold out0_A_3 kernelRun0_A
  dsimp only
  sl_unfold_words
  refine (read_row_ne _ _ _ (k := 1) (l := 0) (by decide) (by decide) _ _ o).trans ?_
  refine (read_row _ _ _ (k := 0) (by decide) _ _ o).trans ?_
  refine (pay4_loaded a2 h2 a3 h3 x w _ _ _ o 0 ?_).trans (zero_add _)
  refine (load_row a5.view _ (k := 0) (by decide) _ o).trans ?_
  exact (read_whole _ _ _ _ _ _).trans (pay1_apply _)

/-- Row 1 of the statistics block at the first point: the column sum of squares. -/
theorem outA_3_row1 (hc : cond0_0 i) (o : Fin 256) :
    out0_A_3 (F := Ideal) c i a2 h2 a3 h3 a4 h4 a5 h5 hc x w (ix2 1 o) = ∑ n : Fin 512, dot x w n o * dot x w n o := by
  unfold out0_A_3 kernelRun0_A
  dsimp only
  sl_unfold_words
  refine (read_row _ _ _ (k := 1) (by decide) _ _ o).trans ?_
  refine (pay5_loaded a2 h2 a3 h3 x w _ _ _ o 0 ?_).trans (zero_add _)
  refine (load_row a5.view _ (k := 1) (by decide) _ o).trans ?_
  refine (read_row_ne _ _ _ (k := 0) (l := 1) (by decide) (by decide) _ _ o).trans ?_
  exact (read_whole _ _ _ _ _ _).trans (pay1_apply _)

end Cert.KernelIdeal.Block

end
-- ==== Proof.Arrays.lean ====
/-
  What the kernel's grid leaves in its two result arrays.

  The product array holds, at batch `b`, position `n` and channel `o`, the sum over the input channels of `x` times `W`. Row 0 of
  the statistics array holds each channel's sum of the product over every batch and position, row 1 its sum of squares.
-/
module

public import proofs.«01_k».proof.Proof.Block
public import Idealize.ShloMosaic.Lib.Pipeline.ValueKit.Geometry
public import Idealize.ShloMosaic.Lib.StableHlo.RunRead

@[expose] public section

noncomputable section

namespace Cert.KernelIdeal.Arrays

open Cert.KernelIdeal Cert.KernelIdeal.Gen Cert.KernelIdeal.Block Idealize.ShloMosaic Idealize.ShloMosaic.TcCoe
open Idealize.ShloMosaic.Pipeline (Dat)

/-- The first layer's product at batch `b`, position `n`, channel `o`: the sum over the input channels. -/
def prod1 (x : Vec Ideal S4x1216x4096 .f32) (W : Vec Ideal S256x1216 .f32) (b : Fin 4) (n : Fin 4096) (o : Fin 256) : EReal :=
  ∑ k : Fin 1216, x (ix3 b k n) * W (ix2 o k)

/-- The product as an array of batch, position and channel. -/
def product (x : Vec Ideal S4x1216x4096 .f32) (W : Vec Ideal S256x1216 .f32) : Vec Ideal S4x4096x256 .f32 :=
  fun i => prod1 x W (i 0) (i 1) (i 2)

/-- The batch of grid point `t`. -/
def batch (t : ℕ) : Fin 4 := ⟨t / 8 % 4, Nat.mod_lt _ (by decide)⟩

/-- The position of row `n` of grid point `t`'s block. -/
def pos (t : ℕ) (n : Fin 512) : Fin 4096 := ⟨t % 8 * 512 + n.val, by have := n.isLt; omega⟩

variable (m : (ℓ : Loc nD τ sig) → Buf (Elt Ideal) ℓ)

/-- The input windows' and the product window's block indices: batch and block of positions. -/
theorem index0 : ∀ t : Fin cfg0.N, win0_0.index t = ![t.val / 8 % 4, 0, t.val % 8] :=
  (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val / 8 % 4, t.val % 8, 0] :=
  (by decide +kernel : ∀ t : Fin grid0.N, _)

/-- The region finds the transposed weights. -/
theorem weights (c : Dev nD) (k : Fin 1216) (o : Fin 256) :
    V m c main_v0 (ix2 k o) = m ((c : Thread nD τ).loc main_arg2) (ix2 o k) := by
  have h : V m c main_v0 = transpose S1216x256 [1, 0] (m ((c : Thread nD τ).loc main_arg2)) transposes_S256x1216_S1216x256_1_0 := by
    unfold V V0
    simp only [hostOps0, List.flatten_cons, List.flatten_nil, List.append_nil]
    rfl
  rw [h]
  pointwise

/-- Point `t`'s block of `x`, at an index. -/
theorem block_x (c : Dev nD) (t : Fin cfg0.N) (k : Fin 1216) (n : Fin 512) :
    (iblk m c 0 t : Vec Ideal S1x1216x512 .f32) (ix3 0 k n)
      = m ((c : Thread nD τ).loc main_arg0) (ix3 (batch t.val) k (pos t.val n)) := by
  rw [← V_main_arg0 m c]
  blk_simp [iblk]
  congr 1
  funext a
  apply Fin.ext
  match a with
  | ⟨0, _⟩ => blk_simp [index0]; rfl
  | ⟨1, _⟩ => blk_simp [index0]
  | ⟨2, _⟩ => blk_simp [index0]; rfl

/-- Every point's block of the weights is the whole array. -/
theorem block_w (c : Dev nD) (t : Fin cfg0.N) (k : Fin 1216) (o : Fin 256) :
    (iblk m c 1 t : Vec Ideal S1216x256 .f32) (ix2 k o) = m ((c : Thread nD τ).loc main_arg2) (ix2 o k) := by
  rw [← weights m c]
  blk_simp [iblk]
  congr 1
  funext a
  apply Fin.ext
  match a with
  | ⟨0, _⟩ => blk_simp [index1]
  | ⟨1, _⟩ => blk_simp [index1]

/-- `x` and `W` as the run starts with them. -/
abbrev argX (c : Dev nD) : Vec Ideal S4x1216x4096 .f32 := m ((c : Thread nD τ).loc main_arg0)
abbrev argW (c : Dev nD) : Vec Ideal S256x1216 .f32 := m ((c : Thread nD τ).loc main_arg2)

/-- Point `t`'s product is its block of the whole product. -/
theorem dot_iblk (c : Dev nD) (t : Fin cfg0.N) (n : Fin 512) (o : Fin 256) :
    dot (iblk m c 0 t) (iblk m c 1 t) n o = prod1 (argX m c) (argW m c) (batch t.val) (pos t.val n) o := by
  unfold dot prod1
  refine Finset.sum_congr rfl fun k _ => ?_
  rw [block_x, block_w]

/-- What point `t` leaves in its product block. -/
theorem out_block (c : Dev nD) (t : Fin cfg0.N) (n : Fin 512) (o : Fin 256) :
    (outsAt0 m c t.val t.isLt).1 (ix3 0 n o) = prod1 (argX m c) (argW m c) (batch t.val) (pos t.val n) o := by
  rw [← dot_iblk, ← pay3_apply]
  by_cases h0 : t.val % 32 = 0
  · rw [outsAt0_A m c t h0]
    dsimp only
    rw [outA_2]
  · rw [outsAt0_B m c t h0]
    dsimp only
    rw [outB_2]

/-- The same, the block's index whole. -/
theorem out_block' (c : Dev nD) (t : Fin cfg0.N) (y : S1x512x256.Idx) :
    (outsAt0 m c t.val t.isLt).1 y = prod1 (argX m c) (argW m c) (batch t.val) (pos t.val (y 1)) (y 2) := by
  obtain ⟨a, n, o, rfl⟩ : ∃ (a : Fin 1) (n : Fin 512) (o : Fin 256), y = ix3 a n o := ⟨y 0, y 1, y 2, eq_ix3 y⟩
  obtain rfl : a = 0 := Subsingleton.elim _ _
  exact out_block m c t n o

/-- THE PRODUCT ARRAY after the run. -/
theorem final_product (c : Dev nD) : (dats m 0 c).arrAt 2 cfg0.N = product (argX m c) (argW m c) := by
  refine (dats m 0 c).arrAt_eq_of_covers 2 _ (by decide +kernel) fun t hf y => ?_
  blk_simp
  rw [after0_2]
  refine (out_block' m c t y).trans ?_
  have h0 : ((win0_2.blk t).view.emb y : S4x4096x256.Idx) 0 = batch t.val := by
    apply Fin.ext
    blk_simp [index2]
    rfl
  have h1 : ((win0_2.blk t).view.emb y : S4x4096x256.Idx) 1 = pos t.val (y 1) := by
    apply Fin.ext
    blk_simp [index2]
    rfl
  have h2 : ((win0_2.blk t).view.emb y : S4x4096x256.Idx) 2 = y 2 := by
    apply Fin.ext
    blk_simp [index2]
  show _ = prod1 _ _ (((win0_2.blk t).view.emb y : S4x4096x256.Idx) 0) (((win0_2.blk t).view.emb y : S4x4096x256.Idx) 1) (((win0_2.blk t).view.emb y : S4x4096x256.Idx) 2)
  rw [h0, h1, h2]

/-- Point `t`'s contribution to the statistics: a function of the product, summed over its block. -/
def part (x : Vec Ideal S4x1216x4096 .f32) (W : Vec Ideal S256x1216 .f32) (f : EReal → EReal) (o : Fin 256) (t : ℕ) : EReal :=
  ∑ n : Fin 512, f (prod1 x W (batch t) (pos t n) o)

/-- Row 0 of the statistics block after point `n`: the contributions of the points so far. -/
theorem row0_at (c : Dev nD) (o : Fin 256) : ∀ (n : ℕ) (h : n < cfg0.N),
    (outsAt0 m c n h).2 (ix2 0 o) = ∑ t ∈ Finset.range (n + 1), part (argX m c) (argW m c) (fun y => y) o t
  | 0, h => by
    rw [Finset.sum_range_one]
    rw [outsAt0_A m c ⟨0, h⟩ rfl]
    dsimp only
    rw [outA_3_row0]
    exact Finset.sum_congr rfl fun n _ => dot_iblk m c ⟨0, h⟩ n o
  | n + 1, h => by
    have hN : cfg0.N = 32 := N_0
    have hB : ¬(⟨n + 1, h⟩ : Fin cfg0.N).val % 32 = 0 := by dsimp only; omega
    rw [Finset.sum_range_succ, ← row0_at c o n (Nat.lt_of_succ_lt h)]
    rw [outsAt0_B m c ⟨n + 1, h⟩ hB]
    dsimp only
    rw [outB_3_row0]
    exact congrArg _ (Finset.sum_congr rfl fun k _ => dot_iblk m c ⟨n + 1, h⟩ k o)

/-- Row 1 likewise, of the squares. -/
theorem row1_at (c : Dev nD) (o : Fin 256) : ∀ (n : ℕ) (h : n < cfg0.N),
    (outsAt0 m c n h).2 (ix2 1 o) = ∑ t ∈ Finset.range (n + 1), part (argX m c) (argW m c) (fun y => y * y) o t
  | 0, h => by
    rw [Finset.sum_range_one]
    rw [outsAt0_A m c ⟨0, h⟩ rfl]
    dsimp only
    rw [outA_3_row1]
    exact Finset.sum_congr rfl fun n _ => by rw [dot_iblk m c ⟨0, h⟩ n o]
  | n + 1, h => by
    have hN : cfg0.N = 32 := N_0
    have hB : ¬(⟨n + 1, h⟩ : Fin cfg0.N).val % 32 = 0 := by dsimp only; omega
    rw [Finset.sum_range_succ, ← row1_at c o n (Nat.lt_of_succ_lt h)]
    rw [outsAt0_B m c ⟨n + 1, h⟩ hB]
    dsimp only
    rw [outB_3_row1]
    exact congrArg _ (Finset.sum_congr rfl fun k _ => by rw [dot_iblk m c ⟨n + 1, h⟩ k o])

/-- The contributions of all 32 points together run over every batch and position. -/
theorem sum_parts (x : Vec Ideal S4x1216x4096 .f32) (W : Vec Ideal S256x1216 .f32) (f : EReal → EReal) (o : Fin 256) :
    ∑ t ∈ Finset.range 32, part x W f o t = ∑ i : Fin 4 × Fin 4096, f (prod1 x W i.1 i.2 o) := by
  rw [Finset.sum_range, Fin.sum_univ_tiles 4 8 rfl, Fintype.sum_prod_type]
  refine Finset.sum_congr rfl fun b _ => ?_
  rw [Fin.sum_univ_tiles 8 512 rfl]
  refine Finset.sum_congr rfl fun s _ => ?_
  unfold part
  refine Finset.sum_congr rfl fun n _ => ?_
  have hb : batch (b.val * 8 + s.val) = b := Fin.ext (by
    have := b.isLt; have := s.isLt
    show (b.val * 8 + s.val) / 8 % 4 = b.val; omega)
  have hs : pos (b.val * 8 + s.val) n = ⟨s.val * 512 + n.val, by have := s.isLt; have := n.isLt; omega⟩ := Fin.ext (by
    have := s.isLt
    show (b.val * 8 + s.val) % 8 * 512 + n.val = s.val * 512 + n.val
    omega)
  dsimp only
  rw [hb, hs]

/-- The last point. -/
def last : Fin cfg0.N := ⟨31, by rw [show cfg0.N = 32 from N_0]; decide⟩

/-- The statistics array after the run is what the last point left. -/
theorem final_stats (c : Dev nD) : (dats m 0 c).arrAt 3 cfg0.N = (outsAt0 m c last.val last.isLt).2 := by
  refine (dats m 0 c).arrAt_eq_of_after_last 3 last (by decide +kernel) _ fun j => ?_
  blk_simp
  rw [after0_3]

/-- ROW 0 OF THE STATISTICS: each channel's sum over every batch and position. -/
theorem stats_row0 (c : Dev nD) (o : Fin 256) : ((dats m 0 c).arrAt 3 cfg0.N : Vec Ideal S8x256 .f32) (ix2 0 o)
    = ∑ i : Fin 4 × Fin 4096, prod1 (argX m c) (argW m c) i.1 i.2 o := by
  rw [final_stats, ← sum_parts _ _ (fun y => y)]
  exact row0_at m c o 31 _

/-- ROW 1 OF THE STATISTICS: each channel's sum of squares. -/
theorem stats_row1 (c : Dev nD) (o : Fin 256) : ((dats m 0 c).arrAt 3 cfg0.N : Vec Ideal S8x256 .f32) (ix2 1 o)
    = ∑ i : Fin 4 × Fin 4096, prod1 (argX m c) (argW m c) i.1 i.2 o * prod1 (argX m c) (argW m c) i.1 i.2 o := by
  rw [final_stats, ← sum_parts _ _ (fun y => y * y)]
  exact row1_at m c o 31 _

end Cert.KernelIdeal.Arrays
-- ==== Proof.Terms.lean ====
/-
  The host operations after the kernel's launch, as functions of arrays.

  `y` stands for the launch's [4, 4096, 256] product and `s` for its [8, 256] array of column sums (row 0) and column sums
  of squares (row 1). The names follow the network: the first normalisation folded into a scale and a shift, the second
  layer's product and normalisation, and the edge convolution over the nearest neighbours.
-/
module

public import proofs.«01_k».proof.Proof.Gen.KernelIdeal.Launch

@[expose] public section

set_option maxRecDepth 8192

noncomputable section

namespace Cert.KernelIdeal.Terms

open Cert.KernelIdeal Cert.KernelIdeal.Gen Idealize.ShloMosaic

variable {F : FTy → Type} [FloatOps F]

/-- Row 0 of the launch's sums over the number of rows: the mean of each column. -/
def mean1 (s : FVec F S8x256 .f32) : FVec F S256 .f32 :=
  Host.divf (fun i => shapeCast S256 (extractStridedSlice S1x256 ![0, 0] s slices_S8x256_S1x256_0_0) shapeCasts_S1x256_S256 i)
    (broadcastInDim S256 ![] bcast_S_S256 (constant S_ .f32 0x46800000#32))

/-- Row 1 over the number of rows: the mean of the squares of each column. -/
def meanSq1 (s : FVec F S8x256 .f32) : FVec F S256 .f32 :=
  Host.divf (fun i => shapeCast S256 (extractStridedSlice S1x256 ![1, 0] s slices_S8x256_S1x256_1_0) shapeCasts_S1x256_S256 i)
    (broadcastInDim S256 ![] bcast_S_S256 (constant S_ .f32 0x46800000#32))

/-- The first layer's folded scale. -/
def scale1 (s : FVec F S8x256 .f32) (g : FVec F S256 .f32) : FVec F S256 .f32 :=
  Host.divf g (Host.sqrt (addf (subf (meanSq1 s) (mulf (mean1 s) (mean1 s)))
    (broadcastInDim S256 ![] bcast_S_S256 (constant S_ .f32 0x3727C5AC#32))))

/-- The first layer's folded shift. -/
def shift1 (s : FVec F S8x256 .f32) (g be : FVec F S256 .f32) : FVec F S256 .f32 :=
  subf be (mulf (mean1 s) (scale1 s g))

/-- The first layer before its activation. -/
def pre1 (y : FVec F S4x4096x256 .f32) (s : FVec F S8x256 .f32) (g be : FVec F S256 .f32) : FVec F S4x4096x256 .f32 :=
  addf (mulf y (broadcastInDim S4x4096x256 ![0, 1, 2] bcast_S1x1x256_S4x4096x256_0_1_2
      (broadcastInDim S1x1x256 ![2] bcast_S256_S1x1x256_2 (scale1 s g))))
    (broadcastInDim S4x4096x256 ![0, 1, 2] bcast_S1x1x256_S4x4096x256_0_1_2
      (broadcastInDim S1x1x256 ![2] bcast_S256_S1x1x256_2 (shift1 s g be)))

/-- The activation on the first layer's shape. -/
def leaky1 (a : FVec F S4x4096x256 .f32) : FVec F S4x4096x256 .f32 :=
  select (cmpf .oge a (broadcastInDim S4x4096x256 ![] bcast_S_S4x4096x256 (constant S_ .f32 0x00000000#32))) a
    (mulf (broadcastInDim S4x4096x256 ![] bcast_S_S4x4096x256 (id (constant S_ .f32 0x3E4CCCCD#32))) a)

/-- The second layer's product. -/
def prod2 (a : FVec F S4x4096x256 .f32) (w : FVec F S64x256 .f32) : FVec F S4x4096x64 .f32 :=
  Host.dotGeneral dot_S4x4096x256_S64x256_S4x4096x64_2_1_01_0_n_n none a w

/-- The mean of each column of the second layer's product. -/
def mean2 (y : FVec F S4x4096x64 .f32) : FVec F S64 .f32 :=
  Host.divf (Host.reduceAdd y (constant S_ .f32 0x00000000#32) reducesTo_S4x4096x64_S64_d0_1 h_S_)
    (broadcastInDim S64 ![] bcast_S_S64 (constant S_ .f32 0x46800000#32))

/-- The differences from the column means, as the variance takes them. -/
def diff2 (y : FVec F S4x4096x64 .f32) : FVec F S4x4096x64 .f32 :=
  subf y (broadcastInDim S4x4096x64 ![0, 1, 2] bcast_S1x1x64_S4x4096x64_0_1_2
    (Host.divf (broadcastInDim S1x1x64 ![2] bcast_S64_S1x1x64_2
        (Host.reduceAdd y (constant S_ .f32 0x00000000#32) reducesTo_S4x4096x64_S64_d0_1 h_S_))
      (broadcastInDim S1x1x64 ![] bcast_S_S1x1x64 (constant S_ .f32 0x46800000#32))))

/-- The number the variance divides by: the number of rows less the degrees of freedom `d`. -/
def count2 (d : IVec S_ 32) : FVec F S_ .f32 := subf (constant S_ .f32 0x46800000#32) (sitofp .f32 d)

/-- The variance of each column. -/
def var2 (y : FVec F S4x4096x64 .f32) (d : IVec S_ 32) : FVec F S64 .f32 :=
  select (broadcastInDim S64 ![] bcast_S_S64 (cmpf .ogt (count2 (F := F) d) (constant S_ .f32 0x00000000#32)))
    (Host.divf (Host.reduceAdd (mulf (diff2 y) (diff2 y)) (constant S_ .f32 0x00000000#32) reducesTo_S4x4096x64_S64_d0_1 h_S_)
      (broadcastInDim S64 ![] bcast_S_S64 (count2 d)))
    (broadcastInDim S64 ![] bcast_S_S64 (id (constant S_ .f32 0x7FC00000#32)))

/-- The second layer before its activation, off the column means `m` and variances `v`. -/
def pre2 (y : FVec F S4x4096x64 .f32) (m v g be : FVec F S64 .f32) : FVec F S4x4096x64 .f32 :=
  addf (mulf (Host.divf
        (subf y (broadcastInDim S4x4096x64 ![0, 1, 2] bcast_S1x1x64_S4x4096x64_0_1_2 (broadcastInDim S1x1x64 ![2] bcast_S64_S1x1x64_2 m)))
        (broadcastInDim S4x4096x64 ![0, 1, 2] bcast_S1x1x64_S4x4096x64_0_1_2 (broadcastInDim S1x1x64 ![2] bcast_S64_S1x1x64_2
          (Host.sqrt (addf v (broadcastInDim S64 ![] bcast_S_S64 (constant S_ .f32 0x3727C5AC#32)))))))
      (broadcastInDim S4x4096x64 ![0, 1, 2] bcast_S1x1x64_S4x4096x64_0_1_2 (broadcastInDim S1x1x64 ![2] bcast_S64_S1x1x64_2 g)))
    (broadcastInDim S4x4096x64 ![0, 1, 2] bcast_S1x1x64_S4x4096x64_0_1_2 (broadcastInDim S1x1x64 ![2] bcast_S64_S1x1x64_2 be))

/-- The activation on the second layer's shape. -/
def leaky2 (a : FVec F S4x4096x64 .f32) : FVec F S4x4096x64 .f32 :=
  select (cmpf .oge a (broadcastInDim S4x4096x64 ![] bcast_S_S4x4096x64 (constant S_ .f32 0x00000000#32))) a
    (mulf (broadcastInDim S4x4096x64 ![] bcast_S_S4x4096x64 (id (constant S_ .f32 0x3E4CCCCD#32))) a)

/-- The features, channels before points. -/
def feat (a : FVec F S4x4096x64 .f32) : FVec F S4x64x4096 .f32 :=
  transpose S4x64x4096 [0, 2, 1] a transposes_S4x4096x64_S4x64x4096_0_2_1

/-! ## The edge convolution -/

/-- The points, coordinates last. -/
def pts (p : FVec F S4x3x4096 .f32) : FVec F S4x4096x3 .f32 :=
  transpose S4x4096x3 [0, 2, 1] p transposes_S4x3x4096_S4x4096x3_0_2_1

/-- The squared lengths of points. -/
def sq (q : FVec F S4x4096x3 .f32) : FVec F S4x4096 .f32 :=
  Host.reduceAdd (mulf q q) (constant S_ .f32 0x00000000#32) reducesTo_S4x4096x3_S4x4096_d2 h_S_

/-- The negated squared distances between points. -/
def negDist (q : FVec F S4x4096x3 .f32) : FVec F S4x4096x4096 .f32 :=
  Host.negf (addf (subf
      (broadcastInDim S4x4096x4096 ![0, 1, 2] bcast_S4x4096x1_S4x4096x4096_0_1_2 (broadcastInDim S4x4096x1 ![0, 1] bcast_S4x4096_S4x4096x1_0_1 (sq q)))
      (mulf (broadcastInDim S4x4096x4096 ![] bcast_S_S4x4096x4096 (constant S_ .f32 0x40000000#32))
        (Host.dotGeneral dot_S4x4096x3_S4x4096x3_S4x4096x4096_2_2_1_1_0_0 none q q)))
    (broadcastInDim S4x4096x4096 ![0, 1, 2] bcast_S4x1x4096_S4x4096x4096_0_1_2 (broadcastInDim S4x1x4096 ![0, 2] bcast_S4x4096_S4x1x4096_0_2 (sq q))))

/-- The indices of the nearest neighbours. -/
def near (q : FVec F S4x4096x3 .f32) : IVec S4x4096x20 32 :=
  (Host.topK S4x4096x20 2 (FloatOps.cmpfTotal .gt) (negDist q) sliceFits_S4x4096x4096_S4x4096x20).2

/-- The indices, a negative one counted from the end. -/
def wrap (i : IVec S4x4096x20 32) : IVec S4x4096x20 32 :=
  select (cmpi .slt i (broadcastInDim S4x4096x20 ![] bcast_S_S4x4096x20 (constantI S_ 32 0#32)))
    (addi i (broadcastInDim S4x4096x20 ![] bcast_S_S4x4096x20 (constantI S_ 32 4096#32))) i

/-- The features, points before channels. -/
def featT (h : FVec F S4x64x4096 .f32) : FVec F S4x4096x64 .f32 :=
  transpose S4x4096x64 [0, 2, 1] h transposes_S4x64x4096_S4x4096x64_0_2_1

/-- Each point's features, once for each neighbour. -/
def self (h : FVec F S4x64x4096 .f32) : FVec F S4x4096x20x64 .f32 :=
  broadcastInDim S4x4096x20x64 ![0, 1, 2, 3] bcast_S4x4096x1x64_S4x4096x20x64_0_1_2_3
    (broadcastInDim S4x4096x1x64 ![0, 1, 3] bcast_S4x4096x64_S4x4096x1x64_0_1_3 (featT h))

/-- Each neighbour's features less the point's. -/
def nbr (h : FVec F S4x64x4096 .f32) (i : IVec S4x4096x20 32) : FVec F S4x4096x20x64 .f32 :=
  subf (Host.gather gather_S4x4096x64_S4x4096x20x1_S4x4096x20x64_3_1_0_0_1_3_1164 (featT h)
    (broadcastInDim S4x4096x20x1 ![0, 1, 2] bcast_S4x4096x20_S4x4096x20x1_0_1_2 (wrap i))) (self h)

/-- Two feature arrays side by side. -/
def pair (a b : FVec F S4x4096x20x64 .f32) : FVec F S4x4096x20x128 .f32 :=
  concatenate S4x4096x20x128 3 [⟨S4x4096x20x64, a⟩, ⟨S4x4096x20x64, b⟩] concatenates_S4x4096x20x64_S4x4096x20x64_S4x4096x20x128_d3

/-- The edge convolution's product, channels second, with its bias. -/
def conv (e : FVec F S4x4096x20x128 .f32) (w : FVec F S128x128 .f32) (b : FVec F S128 .f32) : FVec F S4x128x4096x20 .f32 :=
  addf (transpose S4x128x4096x20 [0, 3, 1, 2] (Host.dotGeneral dot_S4x4096x20x128_S128x128_S4x4096x20x128_3_1_012_0_n_n none e w)
      transposes_S4x4096x20x128_S4x128x4096x20_0_3_1_2)
    (broadcastInDim S4x128x4096x20 ![0, 1, 2, 3] bcast_S1x128x1x1_S4x128x4096x20_0_1_2_3 (broadcastInDim S1x128x1x1 ![1] bcast_S128_S1x128x1x1_1 b))

/-- The mean of each channel of the convolution. -/
def mean3 (z : FVec F S4x128x4096x20 .f32) : FVec F S1x128x1x1 .f32 :=
  Host.divf (broadcastInDim S1x128x1x1 ![1] bcast_S128_S1x128x1x1_1
      (Host.reduceAdd z (constant S_ .f32 0x00000000#32) reducesTo_S4x128x4096x20_S128_d0_2_3 h_S_))
    (broadcastInDim S1x128x1x1 ![] bcast_S_S1x128x1x1 (constant S_ .f32 0x48A00000#32))

/-- The differences from the channel means. -/
def diff3 (z : FVec F S4x128x4096x20 .f32) : FVec F S4x128x4096x20 .f32 :=
  subf z (broadcastInDim S4x128x4096x20 ![0, 1, 2, 3] bcast_S1x128x1x1_S4x128x4096x20_0_1_2_3 (mean3 z))

/-- The number the convolution's variance divides by. -/
def count3 (d : IVec S_ 32) : FVec F S_ .f32 := subf (constant S_ .f32 0x48A00000#32) (sitofp .f32 d)

/-- The variance of each channel. -/
def var3 (z : FVec F S4x128x4096x20 .f32) (d : IVec S_ 32) : FVec F S1x128x1x1 .f32 :=
  select (broadcastInDim S1x128x1x1 ![] bcast_S_S1x128x1x1 (cmpf .ogt (count3 (F := F) d) (constant S_ .f32 0x00000000#32)))
    (Host.divf (broadcastInDim S1x128x1x1 ![1] bcast_S128_S1x128x1x1_1
        (Host.reduceAdd (mulf (diff3 z) (diff3 z)) (constant S_ .f32 0x00000000#32) reducesTo_S4x128x4096x20_S128_d0_2_3 h_S_))
      (broadcastInDim S1x128x1x1 ![] bcast_S_S1x128x1x1 (count3 d)))
    (broadcastInDim S1x128x1x1 ![] bcast_S_S1x128x1x1 (id (constant S_ .f32 0x7FC00000#32)))

/-- The convolution normalised, off its channel means `m` and variances `v`. -/
def pre3 (z : FVec F S4x128x4096x20 .f32) (m v : FVec F S1x128x1x1 .f32) (g be : FVec F S128 .f32) : FVec F S4x128x4096x20 .f32 :=
  addf (mulf (Host.divf
        (subf z (broadcastInDim S4x128x4096x20 ![0, 1, 2, 3] bcast_S1x128x1x1_S4x128x4096x20_0_1_2_3 m))
        (broadcastInDim S4x128x4096x20 ![0, 1, 2, 3] bcast_S1x128x1x1_S4x128x4096x20_0_1_2_3
          (Host.sqrt (addf v (broadcastInDim S1x128x1x1 ![] bcast_S_S1x128x1x1 (constant S_ .f32 0x3727C5AC#32))))))
      (broadcastInDim S4x128x4096x20 ![0, 1, 2, 3] bcast_S1x128x1x1_S4x128x4096x20_0_1_2_3 (broadcastInDim S1x128x1x1 ![1] bcast_S128_S1x128x1x1_1 g)))
    (broadcastInDim S4x128x4096x20 ![0, 1, 2, 3] bcast_S1x128x1x1_S4x128x4096x20_0_1_2_3 (broadcastInDim S1x128x1x1 ![1] bcast_S128_S1x128x1x1_1 be))

/-- The activation on the convolution's shape. -/
def leaky3 (a : FVec F S4x128x4096x20 .f32) : FVec F S4x128x4096x20 .f32 :=
  select (cmpf .oge a (broadcastInDim S4x128x4096x20 ![] bcast_S_S4x128x4096x20 (constant S_ .f32 0x00000000#32))) a
    (mulf (broadcastInDim S4x128x4096x20 ![] bcast_S_S4x128x4096x20 (id (constant S_ .f32 0x3E4CCCCD#32))) a)

/-- The greatest over the neighbours. -/
def top (a : FVec F S4x128x4096x20 .f32) : FVec F S4x128x4096 .f32 :=
  Host.reduce FloatOps.maximumf a (constant S_ .f32 0xFF800000#32) reducesTo_S4x128x4096x20_S4x128x4096_d3 h_S_

/-- The convolution of the features `h` over the nearest neighbours of the points `p`. -/
def edge (h : FVec F S4x64x4096 .f32) (p : FVec F S4x3x4096 .f32) (w : FVec F S128x128 .f32) (b : FVec F S128 .f32) :
    FVec F S4x128x4096x20 .f32 :=
  conv (pair (nbr h (near (pts p))) (self h)) w b

/-- EVERYTHING AFTER THE FEATURES: the edge convolution of `h`, normalised, activated and reduced over the neighbours. -/
def tail (h : FVec F S4x64x4096 .f32) (p : FVec F S4x3x4096 .f32) (w : FVec F S128x128 .f32) (b g be : FVec F S128 .f32) :
    FVec F S4x128x4096 .f32 :=
  top (leaky3 (pre3 (edge h p w b) (mean3 (edge h p w b)) (var3 (edge h p w b) (constantI S_ 32 0#32)) g be))

/-- THE FEATURES, from the launch's product and sums. -/
def features (y : FVec F S4x4096x256 .f32) (s : FVec F S8x256 .f32) (g1 be1 : FVec F S256 .f32) (w2 : FVec F S64x256 .f32)
    (g2 be2 : FVec F S64 .f32) : FVec F S4x64x4096 .f32 :=
  feat (leaky2 (pre2 (prod2 (leaky1 (pre1 y s g1 be1)) w2) (mean2 (prod2 (leaky1 (pre1 y s g1 be1)) w2))
    (var2 (prod2 (leaky1 (pre1 y s g1 be1)) w2) (constantI S_ 32 0#32)) g2 be2))

end Cert.KernelIdeal.Terms

end
-- ==== Proof.Tail.lean ====
/-
  What the host operations after the launch leave, as the functions of Terms.lean.

  The operations come in eleven lists; for each list, what it leaves at the buffers a later list reads is stated over any
  contents `V` before it. `all_result` chains them: the program's result is `tail` of `features` of the launch's two arrays.
-/
module

public import proofs.«01_k».proof.Proof.Terms
public import proofs.«01_k».proof.Proof.Gen.KernelIdeal.Frame.Runs
public import Idealize.ShloMosaic.Lib.StableHlo.RunRead

@[expose] public section

set_option maxRecDepth 16384

noncomputable section

namespace Cert.KernelIdeal.Terms

open Cert.KernelIdeal Cert.KernelIdeal.Gen Idealize.ShloMosaic Idealize.ShloMosaic.StableHlo

variable {F : FTy → Type} [FloatOps F]

/-! ## Each list's results -/

/-- The first layer before its activation. -/
theorem after_pre1 (V : Valuation τ sig (Elt F)) :
    after hostOps1 V (Proc.devRef .tc main_v23) = pre1 (V (Proc.devRef .tc main_v1_0)) (V (Proc.devRef .tc main_v1_1)) (V (Proc.devRef .tc main_arg4)) (V (Proc.devRef .tc main_arg5)) := by
  unfold pre1 shift1 scale1 mean1 meanSq1
  after_reads_simp
  all_goals rfl

/-- The first activation's slope. -/
theorem after_slope1 (V : Valuation τ sig (Elt F)) :
    after hostOps1 V (Proc.devRef .tc main_cst_2) = constant S_ .f32 0x3E4CCCCD#32 := by
  after_reads_simp

/-- The first activation. -/
theorem after_leaky1 (V : Valuation τ sig (Elt F)) (h0 : V (Proc.devRef .tc main_cst_2) = constant S_ .f32 0x3E4CCCCD#32) :
    after hostOps1_1 V (Proc.devRef .tc main_v24) = leaky1 (V (Proc.devRef .tc main_v23)) := by
  unfold leaky1
  after_reads_simp
  simp only [h0]
  all_goals rfl

/-- The second layer's product. -/
theorem after_prod2 (V : Valuation τ sig (Elt F)) :
    after hostOps1_2 V (Proc.devRef .tc main_v25) = prod2 (V (Proc.devRef .tc main_v24)) (V (Proc.devRef .tc main_arg6)) := by
  unfold prod2
  after_reads_simp
  all_goals rfl

/-- Its column means. -/
theorem after_mean2 (V : Valuation τ sig (Elt F)) :
    after hostOps1_2 V (Proc.devRef .tc main_v28) = mean2 (prod2 (V (Proc.devRef .tc main_v24)) (V (Proc.devRef .tc main_arg6))) := by
  unfold mean2 prod2
  after_reads_simp
  all_goals rfl

/-- The degrees of freedom: none. -/
theorem after_dof2 (V : Valuation τ sig (Elt F)) :
    after hostOps1_2 V (Proc.devRef .tc main_c) = constantI S_ 32 0#32 := by
  after_reads_simp

/-- The column variances. -/
theorem after_var2 (V : Valuation τ sig (Elt F)) :
    after hostOps1_3 V (Proc.devRef .tc main_v29) = var2 (V (Proc.devRef .tc main_v25)) (V (Proc.devRef .tc main_c)) := by
  unfold var2 diff2 count2
  after_reads_simp
  all_goals rfl

/-- The second layer before its activation. -/
theorem after_pre2 (V : Valuation τ sig (Elt F)) :
    after hostOps1_4 V (Proc.devRef .tc main_v44) = pre2 (V (Proc.devRef .tc main_v25)) (V (Proc.devRef .tc main_v28)) (V (Proc.devRef .tc main_v29)) (V (Proc.devRef .tc main_arg8)) (V (Proc.devRef .tc main_arg9)) := by
  unfold pre2
  after_reads_simp
  all_goals rfl

/-- The second activation's slope. -/
theorem after_slope2 (V : Valuation τ sig (Elt F)) :
    after hostOps1_4 V (Proc.devRef .tc main_cst_6) = constant S_ .f32 0x3E4CCCCD#32 := by
  after_reads_simp

/-- The second activation. -/
theorem after_leaky2 (V : Valuation τ sig (Elt F)) (h0 : V (Proc.devRef .tc main_cst_6) = constant S_ .f32 0x3E4CCCCD#32) :
    after hostOps1_5 V (Proc.devRef .tc main_v45) = leaky2 (V (Proc.devRef .tc main_v44)) := by
  unfold leaky2
  after_reads_simp
  simp only [h0]
  all_goals rfl

/-- Before the two feature arrays are joined: each neighbour's features less the point's. -/
theorem upto_nbr (V : Valuation τ sig (Elt F)) :
    upto hostOps1_6 V 31 (Proc.devRef .tc main_v70) = nbr (feat (V (Proc.devRef .tc main_v45))) (near (pts (V (Proc.devRef .tc main_arg1)))) := by
  unfold nbr self near wrap negDist sq pts featT feat
  after_reads_simp

/-- Before the two feature arrays are joined: each point's features, once for each neighbour. -/
theorem upto_self (V : Valuation τ sig (Elt F)) :
    upto hostOps1_6 V 31 (Proc.devRef .tc main_v69) = self (feat (V (Proc.devRef .tc main_v45))) := by
  unfold self featT feat
  after_reads_simp

/-- The two feature arrays joined. -/
theorem after_pair (V : Valuation τ sig (Elt F)) :
    after hostOps1_6 V (Proc.devRef .tc main_v71)
      = pair (upto hostOps1_6 V 31 (Proc.devRef .tc main_v70)) (upto hostOps1_6 V 31 (Proc.devRef .tc main_v69)) := by
  unfold pair
  after_reads_simp

/-- The convolution of the joined arrays. -/
theorem after_conv (V : Valuation τ sig (Elt F)) :
    after hostOps1_6 V (Proc.devRef .tc main_v76)
      = conv (after hostOps1_6 V (Proc.devRef .tc main_v71)) (V (Proc.devRef .tc main_arg10)) (V (Proc.devRef .tc main_arg11)) := by
  unfold conv
  after_reads_simp

/-- The edge convolution of the features. -/
theorem after_edge (V : Valuation τ sig (Elt F)) :
    after hostOps1_6 V (Proc.devRef .tc main_v76) = edge (feat (V (Proc.devRef .tc main_v45))) (V (Proc.devRef .tc main_arg1)) (V (Proc.devRef .tc main_arg10)) (V (Proc.devRef .tc main_arg11)) := by
  rw [after_conv, after_pair, upto_nbr, upto_self, edge]

/-- Its channel means. -/
theorem after_mean3 (V : Valuation τ sig (Elt F)) :
    after hostOps1_6 V (Proc.devRef .tc main_v80) = mean3 (after hostOps1_6 V (Proc.devRef .tc main_v76)) := by
  unfold mean3
  after_reads_simp

/-- The degrees of freedom: none. -/
theorem after_dof3 (V : Valuation τ sig (Elt F)) :
    after hostOps1_6 V (Proc.devRef .tc main_c_13) = constantI S_ 32 0#32 := by
  after_reads_simp

/-- The channel variances. -/
theorem after_var3 (V : Valuation τ sig (Elt F)) :
    after hostOps1_7 V (Proc.devRef .tc main_v81) = var3 (V (Proc.devRef .tc main_v76)) (V (Proc.devRef .tc main_c_13)) := by
  unfold var3 diff3 mean3 count3
  after_reads_simp
  all_goals rfl

/-- The convolution normalised. -/
theorem after_pre3 (V : Valuation τ sig (Elt F)) :
    after hostOps1_8 V (Proc.devRef .tc main_v94) = pre3 (V (Proc.devRef .tc main_v76)) (V (Proc.devRef .tc main_v80)) (V (Proc.devRef .tc main_v81)) (V (Proc.devRef .tc main_arg12)) (V (Proc.devRef .tc main_arg13)) := by
  unfold pre3
  after_reads_simp
  all_goals rfl

/-- The third activation's slope. -/
theorem after_slope3 (V : Valuation τ sig (Elt F)) :
    after hostOps1_8 V (Proc.devRef .tc main_cst_15) = constant S_ .f32 0x3E4CCCCD#32 := by
  after_reads_simp

/-- The third activation. -/
theorem after_leaky3 (V : Valuation τ sig (Elt F)) (h0 : V (Proc.devRef .tc main_cst_15) = constant S_ .f32 0x3E4CCCCD#32) :
    after hostOps1_9 V (Proc.devRef .tc main_v95) = leaky3 (V (Proc.devRef .tc main_v94)) := by
  unfold leaky3
  after_reads_simp
  simp only [h0]
  all_goals rfl

/-- The greatest over the neighbours. -/
theorem after_top (V : Valuation τ sig (Elt F)) :
    after hostOps1_10 V (Proc.devRef .tc main_v96) = top (V (Proc.devRef .tc main_v95)) := by
  unfold top
  after_reads_simp
  all_goals rfl

/-! ## The lists in sequence -/

/-- A list leaves a buffer it does not write. -/
theorem keep {W : List (Ref sig .tc)} {r : Ref sig .tc} {ops : List (HloOp τ sig (Elt F))} (V : Valuation τ sig (Elt F))
    (hW : ops.Forall fun op => op.writes ⊆ (W.map (Proc.devRef (τ := τ) .tc)).toFinset) (hr : decide (r ∈ W) = false) :
    after ops V (Proc.devRef .tc r) = V (Proc.devRef .tc r) :=
  after_of_writes_sub ops V hW (of_decide_eq_false hr)

/-- The second layer's product after the first three lists. -/
theorem all_prod2 (V : Valuation τ sig (Elt F)) :
    ((after hostOps1_2 (after hostOps1_1 (after hostOps1 V))) (Proc.devRef .tc main_v25)) = prod2 (leaky1 (pre1 (V (Proc.devRef .tc main_v1_0)) (V (Proc.devRef .tc main_v1_1)) (V (Proc.devRef .tc main_arg4)) (V (Proc.devRef .tc main_arg5)))) (V (Proc.devRef .tc main_arg6)) := by
  rw [after_prod2,
    after_leaky1 _ (after_slope1 _),
    after_pre1,
    keep (r := main_arg6) _ hostOps1_1_writes (by decide +kernel),
    keep (r := main_arg6) _ hostOps1_writes (by decide +kernel)]

/-- Its column means after the first three lists. -/
theorem all_mean2 (V : Valuation τ sig (Elt F)) :
    ((after hostOps1_2 (after hostOps1_1 (after hostOps1 V))) (Proc.devRef .tc main_v28)) = mean2 (prod2 (leaky1 (pre1 (V (Proc.devRef .tc main_v1_0)) (V (Proc.devRef .tc main_v1_1)) (V (Proc.devRef .tc main_arg4)) (V (Proc.devRef .tc main_arg5)))) (V (Proc.devRef .tc main_arg6))) := by
  rw [after_mean2,
    after_leaky1 _ (after_slope1 _),
    after_pre1,
    keep (r := main_arg6) _ hostOps1_1_writes (by decide +kernel),
    keep (r := main_arg6) _ hostOps1_writes (by decide +kernel)]

/-- Its column variances after the first four lists. -/
theorem all_var2 (V : Valuation τ sig (Elt F)) :
    ((after hostOps1_3 (after hostOps1_2 (after hostOps1_1 (after hostOps1 V)))) (Proc.devRef .tc main_v29)) = var2 (prod2 (leaky1 (pre1 (V (Proc.devRef .tc main_v1_0)) (V (Proc.devRef .tc main_v1_1)) (V (Proc.devRef .tc main_arg4)) (V (Proc.devRef .tc main_arg5)))) (V (Proc.devRef .tc main_arg6))) (constantI S_ 32 0#32) := by
  rw [after_var2,
    all_prod2,
    after_dof2]

/-- The features after the first six lists. -/
theorem all_features (V : Valuation τ sig (Elt F)) :
    feat ((after hostOps1_5 (after hostOps1_4 (after hostOps1_3 (after hostOps1_2 (after hostOps1_1 (after hostOps1 V)))))) (Proc.devRef .tc main_v45)) = features (V (Proc.devRef .tc main_v1_0)) (V (Proc.devRef .tc main_v1_1)) (V (Proc.devRef .tc main_arg4)) (V (Proc.devRef .tc main_arg5)) (V (Proc.devRef .tc main_arg6)) (V (Proc.devRef .tc main_arg8)) (V (Proc.devRef .tc main_arg9)) := by
  rw [features,
    after_leaky2 _ (after_slope2 _),
    after_pre2,
    all_var2,
    keep (r := main_v25) _ hostOps1_3_writes (by decide +kernel),
    all_prod2,
    keep (r := main_v28) _ hostOps1_3_writes (by decide +kernel),
    all_mean2,
    keep (r := main_arg8) _ hostOps1_3_writes (by decide +kernel),
    keep (r := main_arg8) _ hostOps1_2_writes (by decide +kernel),
    keep (r := main_arg8) _ hostOps1_1_writes (by decide +kernel),
    keep (r := main_arg8) _ hostOps1_writes (by decide +kernel),
    keep (r := main_arg9) _ hostOps1_3_writes (by decide +kernel),
    keep (r := main_arg9) _ hostOps1_2_writes (by decide +kernel),
    keep (r := main_arg9) _ hostOps1_1_writes (by decide +kernel),
    keep (r := main_arg9) _ hostOps1_writes (by decide +kernel)]

/-- The edge convolution after the first seven lists. -/
theorem all_edge (V : Valuation τ sig (Elt F)) :
    ((after hostOps1_6 (after hostOps1_5 (after hostOps1_4 (after hostOps1_3 (after hostOps1_2 (after hostOps1_1 (after hostOps1 V))))))) (Proc.devRef .tc main_v76)) = edge (features (V (Proc.devRef .tc main_v1_0)) (V (Proc.devRef .tc main_v1_1)) (V (Proc.devRef .tc main_arg4)) (V (Proc.devRef .tc main_arg5)) (V (Proc.devRef .tc main_arg6)) (V (Proc.devRef .tc main_arg8)) (V (Proc.devRef .tc main_arg9))) (V (Proc.devRef .tc main_arg1)) (V (Proc.devRef .tc main_arg10)) (V (Proc.devRef .tc main_arg11)) := by
  rw [after_edge,
    all_features,
    keep (r := main_arg1) _ hostOps1_5_writes (by decide +kernel),
    keep (r := main_arg1) _ hostOps1_4_writes (by decide +kernel),
    keep (r := main_arg1) _ hostOps1_3_writes (by decide +kernel),
    keep (r := main_arg1) _ hostOps1_2_writes (by decide +kernel),
    keep (r := main_arg1) _ hostOps1_1_writes (by decide +kernel),
    keep (r := main_arg1) _ hostOps1_writes (by decide +kernel),
    keep (r := main_arg10) _ hostOps1_5_writes (by decide +kernel),
    keep (r := main_arg10) _ hostOps1_4_writes (by decide +kernel),
    keep (r := main_arg10) _ hostOps1_3_writes (by decide +kernel),
    keep (r := main_arg10) _ hostOps1_2_writes (by decide +kernel),
    keep (r := main_arg10) _ hostOps1_1_writes (by decide +kernel),
    keep (r := main_arg10) _ hostOps1_writes (by decide +kernel),
    keep (r := main_arg11) _ hostOps1_5_writes (by decide +kernel),
    keep (r := main_arg11) _ hostOps1_4_writes (by decide +kernel),
    keep (r := main_arg11) _ hostOps1_3_writes (by decide +kernel),
    keep (r := main_arg11) _ hostOps1_2_writes (by decide +kernel),
    keep (r := main_arg11) _ hostOps1_1_writes (by decide +kernel),
    keep (r := main_arg11) _ hostOps1_writes (by decide +kernel)]

/-- EVERYTHING AFTER THE LAUNCH: the result is the network's tail of the features. -/
theorem all_result (V : Valuation τ sig (Elt F)) :
    ((after hostOps1_10 (after hostOps1_9 (after hostOps1_8 (after hostOps1_7 (after hostOps1_6 (after hostOps1_5 (after hostOps1_4 (after hostOps1_3 (after hostOps1_2 (after hostOps1_1 (after hostOps1 V))))))))))) (Proc.devRef .tc main_v96)) = tail (features (V (Proc.devRef .tc main_v1_0)) (V (Proc.devRef .tc main_v1_1)) (V (Proc.devRef .tc main_arg4)) (V (Proc.devRef .tc main_arg5)) (V (Proc.devRef .tc main_arg6)) (V (Proc.devRef .tc main_arg8)) (V (Proc.devRef .tc main_arg9))) (V (Proc.devRef .tc main_arg1)) (V (Proc.devRef .tc main_arg10)) (V (Proc.devRef .tc main_arg11)) (V (Proc.devRef .tc main_arg12)) (V (Proc.devRef .tc main_arg13)) := by
  rw [tail,
    after_top,
    after_leaky3 _ (after_slope3 _),
    after_pre3,
    after_var3,
    keep (r := main_v76) _ hostOps1_7_writes (by decide +kernel),
    all_edge,
    keep (r := main_v80) _ hostOps1_7_writes (by decide +kernel),
    after_mean3,
    all_edge,
    after_dof3,
    keep (r := main_arg12) _ hostOps1_7_writes (by decide +kernel),
    keep (r := main_arg12) _ hostOps1_6_writes (by decide +kernel),
    keep (r := main_arg12) _ hostOps1_5_writes (by decide +kernel),
    keep (r := main_arg12) _ hostOps1_4_writes (by decide +kernel),
    keep (r := main_arg12) _ hostOps1_3_writes (by decide +kernel),
    keep (r := main_arg12) _ hostOps1_2_writes (by decide +kernel),
    keep (r := main_arg12) _ hostOps1_1_writes (by decide +kernel),
    keep (r := main_arg12) _ hostOps1_writes (by decide +kernel),
    keep (r := main_arg13) _ hostOps1_7_writes (by decide +kernel),
    keep (r := main_arg13) _ hostOps1_6_writes (by decide +kernel),
    keep (r := main_arg13) _ hostOps1_5_writes (by decide +kernel),
    keep (r := main_arg13) _ hostOps1_4_writes (by decide +kernel),
    keep (r := main_arg13) _ hostOps1_3_writes (by decide +kernel),
    keep (r := main_arg13) _ hostOps1_2_writes (by decide +kernel),
    keep (r := main_arg13) _ hostOps1_1_writes (by decide +kernel),
    keep (r := main_arg13) _ hostOps1_writes (by decide +kernel)]

end Cert.KernelIdeal.Terms

end
-- ==== Proof.KernelRun.lean ====
/-
  What the kernel's run leaves: its result is the network's tail of the features of the first layer's product and of its
  statistics.
-/
module

public import proofs.«01_k».proof.Proof.Arrays
public import proofs.«01_k».proof.Proof.Tail

@[expose] public section

noncomputable section

namespace Cert.KernelIdeal.Result

open Cert.KernelIdeal Cert.KernelIdeal.Gen Cert.KernelIdeal.Arrays Cert.KernelIdeal.Terms
open Idealize.ShloMosaic Idealize.ShloMosaic.TcCoe Idealize.ShloMosaic.StableHlo Idealize.SL.Sem
open Idealize.ShloMosaic.Pipeline (Dat)

variable (m : (ℓ : Loc nD τ sig) → Buf (Elt Ideal) ℓ)

/-- The statistics array after the launch. -/
def stats (c : Dev nD) : FVec Ideal S8x256 .f32 := (dats m 0 c).arrAt 3 cfg0.N

/-- The buffers' contents after the launch. -/
abbrev left (c : Dev nD) : Valuation τ sig (Elt Ideal) :=
  Pipeline.withArrays spec0 c (V0 m c) fun w => (dats m 0 c).arrAt w cfg0.N

/-- The launch leaves the product in its first result. -/
theorem left_product (c : Dev nD) : left m c (Proc.devRef .tc main_v1_0) = product (argX m c) (argW m c) :=
  (Pipeline.withArrays_arr spec0 (by decide) c (V0 m c) _ 2).trans (final_product m c)

/-- The launch leaves the statistics in its second result. -/
theorem left_stats (c : Dev nD) : left m c (Proc.devRef .tc main_v1_1) = stats m c :=
  Pipeline.withArrays_arr spec0 (by decide) c (V0 m c) _ 3

/-- A buffer that is none of the launch's arrays keeps its contents. -/
theorem left_of_ne (c : Dev nD) (b : Ref sig .tc) (hb : ∀ w, Pipeline.arrRef spec0 w ≠ b) :
    left m c (Proc.devRef .tc b) = V m c b :=
  Pipeline.withArrays_of_ne spec0 c (V0 m c) _ b hb

/-- The result as a function of the argument contents. -/
def result (c : Dev nD) : FVec Ideal S4x128x4096 .f32 :=
  tail (F := Ideal) (features (F := Ideal) (product (argX m c) (argW m c)) (stats m c) (m ((c : Thread nD τ).loc main_arg4)) (m ((c : Thread nD τ).loc main_arg5))
      (m ((c : Thread nD τ).loc main_arg6)) (m ((c : Thread nD τ).loc main_arg8)) (m ((c : Thread nD τ).loc main_arg9)))
    (m ((c : Thread nD τ).loc main_arg1)) (m ((c : Thread nD τ).loc main_arg10)) (m ((c : Thread nD τ).loc main_arg11))
    (m ((c : Thread nD τ).loc main_arg12)) (m ((c : Thread nD τ).loc main_arg13))

/-- The operations after the launch leave the result. -/
theorem after_result (c : Dev nD) :
    Pipeline.afterTail₀ cfgs (dats m) 0 (V0 m) [hostOps1, hostOps1_1, hostOps1_2, hostOps1_3, hostOps1_4, hostOps1_5, hostOps1_6, hostOps1_7, hostOps1_8, hostOps1_9, hostOps1_10] c main_v96
      = result m c := by
  unfold Pipeline.afterTail₀
  simp only [List.flatten_cons, List.flatten_nil, List.append_nil, StableHlo.after_append]
  refine (all_result (left m c)).trans ?_
  rw [left_product, left_stats,
    left_of_ne m c main_arg4 (by decide), V_main_arg4,
    left_of_ne m c main_arg5 (by decide), V_main_arg5,
    left_of_ne m c main_arg6 (by decide), V_main_arg6,
    left_of_ne m c main_arg8 (by decide), V_main_arg8,
    left_of_ne m c main_arg9 (by decide), V_main_arg9,
    left_of_ne m c main_arg1 (by decide), V_main_arg1,
    left_of_ne m c main_arg10 (by decide), V_main_arg10,
    left_of_ne m c main_arg11 (by decide), V_main_arg11,
    left_of_ne m c main_arg12 (by decide), V_main_arg12,
    left_of_ne m c main_arg13 (by decide), V_main_arg13]
  rfl

/-- THE KERNEL'S RUN: it terminates, and its result buffer ends at `result`. -/
theorem run (ρ : Dev nD → PrngReg) :
    θ_run defs (onTc (τ := τ) (main (F := Ideal))) ⟨m, fun _ => 0, ρ⟩ fun r => ∀ c : Dev nD,
      r.2.mem ((c.tc : Thread nD τ).loc main_v96) = result m c :=
  (θ_run defs _ _).mono
    (fun _ h c => ((h c).2 main_v96 (Pipeline.mem_restRefs_of main_v96 (by decide) (by decide))).trans (after_result m c))
    (run_main m ρ)

end Cert.KernelIdeal.Result

end
-- ==== Proof.KFeat.lean ====
/-
  The kernel's features at an index: the two layers' normalisations over every batch and position, by channel.
-/
module

public import proofs.«01_k».proof.Proof.Norm
public import proofs.«01_k».proof.Proof.Reduce
public import proofs.«01_k».proof.Proof.Terms

@[expose] public section

noncomputable section

namespace Cert.KernelIdeal.Terms

open Cert.KernelIdeal Cert.KernelIdeal.Gen Idealize.ShloMosaic Cert.Norm

/-- A channel's entries of an array of batch, position and channel. -/
abbrev chan {C : ℕ} (y : Vec Ideal ⟨3, ![4, 4096, C]⟩ .f32) (k : Fin C) : Fin 4 × Fin 4096 → EReal := fun i => y (ix3 i.1 i.2 k)

/-- The first layer's mean is row 0 of the statistics over the count. -/
theorem mean1_apply (s : FVec Ideal S8x256 .f32) (k : Fin 256) : mean1 s (ix1 k) = Ideal.div (s (ix2 0 k)) (16384 : ℝ) := by
  rw [← count_bits]
  pointwise [mean1]

/-- The first layer's mean square is row 1 of the statistics over the count. -/
theorem meanSq1_apply (s : FVec Ideal S8x256 .f32) (k : Fin 256) : meanSq1 s (ix1 k) = Ideal.div (s (ix2 1 k)) (16384 : ℝ) := by
  rw [← count_bits]
  pointwise [meanSq1]

/-- The first layer before its activation is its channel's entry, normalised with the variance as the mean of the
    squares less the square of the mean. -/
theorem pre1_apply (y : FVec Ideal S4x4096x256 .f32) (s : FVec Ideal S8x256 .f32) (g be : FVec Ideal S256 .f32)
    (h0 : ∀ k : Fin 256, s (ix2 0 k) = ∑ i, chan y k i) (h1 : ∀ k : Fin 256, s (ix2 1 k) = ∑ i, chan y k i * chan y k i)
    (b : Fin 4) (n : Fin 4096) (k : Fin 256) :
    pre1 y s g be (ix3 b n k) = normK (chan y k) 16384 eps (g (ix1 k)) (be (ix1 k)) (b, n) := by
  unfold normK scaleK varK Cert.Norm.mean
  rw [← h0, ← h1, ← mean1_apply, ← meanSq1_apply, ← eps_eq]
  pointwise [pre1, scale1, shift1]

/-- The first layer's activation, at an index. -/
theorem leaky1_apply (a : FVec Ideal S4x4096x256 .f32) (b : Fin 4) (n : Fin 4096) (k : Fin 256) :
    leaky1 a (ix3 b n k) = act (a (ix3 b n k)) := by
  unfold act
  pointwise [leaky1, id]

/-- The second layer's product, at an index. -/
theorem prod2_apply (a : FVec Ideal S4x4096x256 .f32) (w : FVec Ideal S64x256 .f32) (b : Fin 4) (n : Fin 4096) (o : Fin 64) :
    prod2 a w (ix3 b n o) = ∑ k : Fin 256, a (ix3 b n k) * w (ix2 o k) := by
  pointwise [prod2]

/-- The second layer's mean, by channel. -/
theorem mean2_apply (y : FVec Ideal S4x4096x64 .f32) (o : Fin 64) : mean2 y (ix1 o) = mean (chan y o) 16384 := by
  unfold Cert.Norm.mean
  rw [← count_bits]
  pointwise [mean2, reduce01]

/-- The second layer's differences from the mean. -/
theorem diff2_apply (y : FVec Ideal S4x4096x64 .f32) (b : Fin 4) (n : Fin 4096) (o : Fin 64) :
    diff2 y (ix3 b n o) = y (ix3 b n o) - mean (chan y o) 16384 := by
  unfold Cert.Norm.mean
  rw [← count_bits]
  pointwise [diff2, reduce01]

/-- The second layer's variance, by channel. -/
theorem var2_apply (y : FVec Ideal S4x4096x64 .f32) (o : Fin 64) :
    var2 y (constantI S_ 32 0#32) (ix1 o) = varR (chan y o) 16384 := by
  unfold varR
  simp only [← diff2_apply]
  pointwise [var2, count2, reduce01]
  rw [count_sub, if_pos count_pos]

/-- The second layer before its activation is its channel's entry, normalised. -/
theorem pre2_apply (y : FVec Ideal S4x4096x64 .f32) (g be : FVec Ideal S64 .f32) (b : Fin 4) (n : Fin 4096) (o : Fin 64) :
    pre2 y (mean2 y) (var2 y (constantI S_ 32 0#32)) g be (ix3 b n o)
      = normR (chan y o) 16384 eps (g (ix1 o)) (be (ix1 o)) (b, n) := by
  unfold normR
  rw [← mean2_apply, ← var2_apply, ← eps_eq]
  pointwise [pre2]

/-- The second layer's activation, channels before positions, at an index. -/
theorem leaky2_apply (a : FVec Ideal S4x4096x64 .f32) (b : Fin 4) (n : Fin 4096) (o : Fin 64) :
    feat (leaky2 a) (ix3 b o n) = act (a (ix3 b n o)) := by
  unfold act
  pointwise [feat, leaky2, id]

/-- THE KERNEL'S FEATURES at batch `b`, channel `o`, position `n`. -/
theorem features_apply (y : FVec Ideal S4x4096x256 .f32) (s : FVec Ideal S8x256 .f32) (g1 be1 : FVec Ideal S256 .f32)
    (w2 : FVec Ideal S64x256 .f32) (g2 be2 : FVec Ideal S64 .f32)
    (h0 : ∀ k : Fin 256, s (ix2 0 k) = ∑ i, chan y k i) (h1 : ∀ k : Fin 256, s (ix2 1 k) = ∑ i, chan y k i * chan y k i)
    (b : Fin 4) (o : Fin 64) (n : Fin 4096) :
    features y s g1 be1 w2 g2 be2 (ix3 b o n)
      = act (normR (fun i : Fin 4 × Fin 4096 => ∑ k : Fin 256,
          act (normK (chan y k) 16384 eps (g1 (ix1 k)) (be1 (ix1 k)) i) * w2 (ix2 o k)) 16384 eps (g2 (ix1 o)) (be2 (ix1 o)) (b, n)) := by
  unfold features
  rw [leaky2_apply, pre2_apply]
  congr 2
  funext i
  show prod2 _ _ (ix3 i.1 i.2 o) = _
  rw [prod2_apply]
  refine Finset.sum_congr rfl fun k _ => ?_
  rw [leaky1_apply, pre1_apply y s g1 be1 h0 h1]

end Cert.KernelIdeal.Terms
-- ==== Proof.RefTail.lean ====
/-
  The reference after its features, as the same functions the kernel's operations are stated in.

  The reference computes its features [4, 64, 4096] in its own way; from there on its operations are those of Terms.lean, one
  for one, so its result is `tail` of those features.
-/
module

public import proofs.«01_k».proof.Proof.Terms
public import proofs.«01_k».proof.Proof.Gen.ReferenceIdeal.Run

@[expose] public section

set_option maxRecDepth 16384

noncomputable section

namespace Cert.ReferenceIdeal.Terms

open Cert.ReferenceIdeal Cert.ReferenceIdeal.Gen Cert.ReferenceIdeal.Value Idealize.ShloMosaic Idealize.ShloMosaic.StableHlo

variable {F : FTy → Type} [FloatOps F] (V : Valuation τ sig (Elt F))

/-- The activation on the features' shape. -/
def leaky (a : FVec F S4x64x4096 .f32) : FVec F S4x64x4096 .f32 :=
  select (cmpf .oge a (broadcastInDim S4x64x4096 ![] bcast_S_S4x64x4096 (constant S_ .f32 0x00000000#32))) a
    (mulf (broadcastInDim S4x64x4096 ![] bcast_S_S4x64x4096 (id (constant S_ .f32 0x3E4CCCCD#32))) a)

/-- The reference's features. -/
def feats : FVec F S4x64x4096 .f32 := leaky (res_main_v46 V)

/-- The points, coordinates last. -/
theorem pts_eq : res_main_v48 V = KernelIdeal.Terms.pts (F := F) (V (Proc.devRef .tc main_arg1)) := rfl

/-- The squared lengths. -/
theorem sq_eq : res_main_v50 V = KernelIdeal.Terms.sq (F := F) (res_main_v48 V) := rfl

/-- The negated squared distances. -/
theorem negDist_eq : res_main_v60 V = KernelIdeal.Terms.negDist (F := F) (res_main_v48 V) := by
  unfold res_main_v60 KernelIdeal.Terms.negDist
  rw [sq_eq]
  rfl

/-- The indices of the nearest neighbours. -/
theorem near_eq : res_main_indices V = KernelIdeal.Terms.near (F := F) (res_main_v48 V) := by
  unfold res_main_indices KernelIdeal.Terms.near
  rw [negDist_eq]

/-- The features, points before channels. -/
theorem featT_eq : res_main_v61 V = KernelIdeal.Terms.featT (F := F) (feats V) := rfl

/-- Each point's features, once for each neighbour. -/
theorem self_eq : res_main_v70 V = KernelIdeal.Terms.self (F := F) (feats V) := by
  unfold res_main_v70 KernelIdeal.Terms.self
  rw [featT_eq]

/-- The edge convolution. -/
theorem edge_eq : res_main_v77 V = KernelIdeal.Terms.edge (F := F) (feats V) (V (Proc.devRef .tc main_arg1))
    (V (Proc.devRef .tc main_arg10)) (V (Proc.devRef .tc main_arg11)) := by
  unfold KernelIdeal.Terms.edge KernelIdeal.Terms.nbr
  rw [← self_eq, ← featT_eq, ← pts_eq, ← near_eq]
  rfl

/-- The differences from the channel means. -/
theorem diff3_eq : res_main_call4_v5 V = KernelIdeal.Terms.diff3 (F := F) (res_main_v77 V) := rfl

/-- The number the variance divides by. -/
theorem count3_eq : res_main_call4_v8 V = KernelIdeal.Terms.count3 (F := F) (constantI S_ 32 0#32) := rfl

/-- The convolution normalised. -/
theorem pre3_eq : res_main_v95 V = KernelIdeal.Terms.pre3 (F := F) (res_main_v77 V) (KernelIdeal.Terms.mean3 (res_main_v77 V))
    (KernelIdeal.Terms.var3 (res_main_v77 V) (constantI S_ 32 0#32)) (V (Proc.devRef .tc main_arg12)) (V (Proc.devRef .tc main_arg13)) := by
  unfold KernelIdeal.Terms.var3
  rw [← diff3_eq, ← count3_eq]
  rfl

/-- THE REFERENCE'S RESULT is the network's tail of its features. -/
theorem result_eq : KernelIdeal.Terms.top (F := F) (KernelIdeal.Terms.leaky3 (res_main_v95 V))
    = KernelIdeal.Terms.tail (F := F) (feats V) (V (Proc.devRef .tc main_arg1))
        (V (Proc.devRef .tc main_arg10)) (V (Proc.devRef .tc main_arg11)) (V (Proc.devRef .tc main_arg12)) (V (Proc.devRef .tc main_arg13)) := by
  unfold KernelIdeal.Terms.tail
  rw [← edge_eq, pre3_eq]

end Cert.ReferenceIdeal.Terms

end
-- ==== Proof.RFeat.lean ====
/-
  The reference's features at an index: the same two layers, with the biases.
-/
module

public import proofs.«01_k».proof.Proof.Norm
public import proofs.«01_k».proof.Proof.Reduce
public import proofs.«01_k».proof.Proof.RefTail

@[expose] public section

noncomputable section

namespace Cert.ReferenceIdeal.Terms

open Cert.ReferenceIdeal Cert.ReferenceIdeal.Gen Cert.ReferenceIdeal.Value Idealize.ShloMosaic Idealize.ShloMosaic.StableHlo Cert.Norm

variable (V : Valuation τ sig (Elt Ideal))

/-- The arguments the features read. -/
abbrev x : Vec Ideal S4x1216x4096 .f32 := V (Proc.devRef .tc main_arg0)
abbrev W1 : Vec Ideal S256x1216 .f32 := V (Proc.devRef .tc main_arg2)
abbrev b1 : Vec Ideal S256 .f32 := V (Proc.devRef .tc main_arg3)
abbrev g1 : Vec Ideal S256 .f32 := V (Proc.devRef .tc main_arg4)
abbrev be1 : Vec Ideal S256 .f32 := V (Proc.devRef .tc main_arg5)
abbrev W2 : Vec Ideal S64x256 .f32 := V (Proc.devRef .tc main_arg6)
abbrev b2 : Vec Ideal S64 .f32 := V (Proc.devRef .tc main_arg7)
abbrev g2 : Vec Ideal S64 .f32 := V (Proc.devRef .tc main_arg8)
abbrev be2 : Vec Ideal S64 .f32 := V (Proc.devRef .tc main_arg9)

/-- A channel's entries of an array of batch, channel and position. -/
abbrev chan {C : ℕ} (y : Vec Ideal ⟨3, ![4, C, 4096]⟩ .f32) (k : Fin C) : Fin 4 × Fin 4096 → EReal := fun i => y (ix3 i.1 k i.2)

/-- The first layer's product with its bias. -/
theorem v4_apply (b : Fin 4) (k : Fin 256) (n : Fin 4096) :
    res_main_v4 V (ix3 b k n) = (∑ c : Fin 1216, x V (ix3 b c n) * W1 V (ix2 k c)) + b1 V (ix1 k) := by
  pointwise [res_main_v4]

/-- Its differences from the mean. -/
theorem diff1_apply (k : Fin 256) (i : Fin 4 × Fin 4096) :
    res_main_call0_v5 V (ix3 i.1 k i.2) = chan (res_main_v4 V) k i - mean (chan (res_main_v4 V) k) 16384 := by
  unfold Cert.Norm.mean
  rw [← count_bits]
  pointwise [res_main_call0_v5, reduce02]

/-- Its variance, by channel. -/
theorem var1_eq (k : Fin 256) : varR (chan (res_main_v4 V) k) 16384
    = Ideal.div (∑ i : Fin 4 × Fin 4096, chan (res_main_call0_v5 V) k i * chan (res_main_call0_v5 V) k i) (16384 : ℝ) := by
  unfold varR
  simp only [← diff1_apply]

/-- The first layer normalised. -/
theorem v22_apply (b : Fin 4) (k : Fin 256) (n : Fin 4096) :
    res_main_v22 V (ix3 b k n) = normR (chan (res_main_v4 V) k) 16384 eps (g1 V (ix1 k)) (be1 V (ix1 k)) (b, n) := by
  unfold normR
  rw [var1_eq]
  unfold Cert.Norm.mean
  rw [← eps_eq]
  pointwise [res_main_v22, res_main_call0_v8, reduce02]
  rw [count_sub, if_pos count_pos, count_bits]

/-- The second layer's product with its bias. -/
theorem v28_apply (b : Fin 4) (o : Fin 64) (n : Fin 4096) :
    res_main_v28 V (ix3 b o n) = (∑ k : Fin 256, act (res_main_v22 V (ix3 b k n)) * W2 V (ix2 o k)) + b2 V (ix1 o) := by
  unfold act
  pointwise [res_main_v28, id]

/-- Its differences from the mean. -/
theorem diff2_apply (o : Fin 64) (i : Fin 4 × Fin 4096) :
    res_main_call2_v5 V (ix3 i.1 o i.2) = chan (res_main_v28 V) o i - mean (chan (res_main_v28 V) o) 16384 := by
  unfold Cert.Norm.mean
  rw [← count_bits]
  pointwise [res_main_call2_v5, reduce02]

/-- Its variance, by channel. -/
theorem var2_eq (o : Fin 64) : varR (chan (res_main_v28 V) o) 16384
    = Ideal.div (∑ i : Fin 4 × Fin 4096, chan (res_main_call2_v5 V) o i * chan (res_main_call2_v5 V) o i) (16384 : ℝ) := by
  unfold varR
  simp only [← diff2_apply]

/-- The second layer normalised. -/
theorem v46_apply (b : Fin 4) (o : Fin 64) (n : Fin 4096) :
    res_main_v46 V (ix3 b o n) = normR (chan (res_main_v28 V) o) 16384 eps (g2 V (ix1 o)) (be2 V (ix1 o)) (b, n) := by
  unfold normR
  rw [var2_eq]
  unfold Cert.Norm.mean
  rw [← eps_eq]
  pointwise [res_main_v46, res_main_call2_v8, reduce02]
  rw [count_sub, if_pos count_pos, count_bits]

/-- The activation on the features, at an index. -/
theorem leaky_apply (a : FVec Ideal S4x64x4096 .f32) (b : Fin 4) (o : Fin 64) (n : Fin 4096) :
    leaky a (ix3 b o n) = act (a (ix3 b o n)) := by
  unfold act
  pointwise [leaky, id]

/-- THE REFERENCE'S FEATURES at batch `b`, channel `o`, position `n`. -/
theorem feats_apply (b : Fin 4) (o : Fin 64) (n : Fin 4096) :
    feats V (ix3 b o n)
      = act (normR (fun i : Fin 4 × Fin 4096 => (∑ k : Fin 256,
          act (normR (fun i : Fin 4 × Fin 4096 => (∑ c : Fin 1216, x V (ix3 i.1 c i.2) * W1 V (ix2 k c)) + b1 V (ix1 k))
            16384 eps (g1 V (ix1 k)) (be1 V (ix1 k)) i) * W2 V (ix2 o k)) + b2 V (ix1 o)) 16384 eps (g2 V (ix1 o)) (be2 V (ix1 o)) (b, n)) := by
  unfold feats
  rw [leaky_apply, v46_apply]
  congr 2
  funext i
  refine (v28_apply V i.1 o i.2).trans (congrArg (· + _) (Finset.sum_congr rfl fun k _ => ?_))
  rw [v22_apply]
  congr 3
  funext j
  exact v4_apply V j.1 k j.2

end Cert.ReferenceIdeal.Terms
-- ==== Proof.Features.lean ====
/-
  The kernel's features are the reference's, when the first layer's bias and scale and the second layer's bias are finite.
-/
module

public import proofs.«01_k».proof.Proof.Arrays
public import proofs.«01_k».proof.Proof.KFeat
public import proofs.«01_k».proof.Proof.RFeat

@[expose] public section

noncomputable section

namespace Cert.Same

open Idealize.ShloMosaic Idealize.ShloMosaic.StableHlo Cert.Norm
open Cert.ReferenceIdeal.Terms (x W1 b1 g1 be1 W2 b2 g2 be2 feats feats_apply)
open Cert.KernelIdeal.Terms (features features_apply)
open Cert.KernelIdeal.Arrays (product prod1)

variable (V : Valuation Cert.ReferenceIdeal.τ Cert.ReferenceIdeal.sig (Elt Ideal))

/-- THE FEATURES AGREE: for statistics `s` that hold each channel's sum and sum of squares, the kernel's features of the
    first layer's product are the reference's features, which add the biases `b1` and `b2`. -/
theorem features_eq (s : FVec Ideal Cert.KernelIdeal.S8x256 .f32)
    (h0 : ∀ k : Fin 256, s (ix2 0 k) = ∑ i : Fin 4 × Fin 4096, prod1 (x V) (W1 V) i.1 i.2 k)
    (h1 : ∀ k : Fin 256, s (ix2 1 k) = ∑ i : Fin 4 × Fin 4096, prod1 (x V) (W1 V) i.1 i.2 k * prod1 (x V) (W1 V) i.1 i.2 k)
    (hb1 : ∀ k : Fin 256, ∃ r : ℝ, b1 V (ix1 k) = r) (hg1 : ∀ k : Fin 256, ∃ r : ℝ, g1 V (ix1 k) = r)
    (hb2 : ∀ o : Fin 64, ∃ r : ℝ, b2 V (ix1 o) = r) :
    features (product (x V) (W1 V)) s (g1 V) (be1 V) (W2 V) (g2 V) (be2 V) = feats V := by
  funext i
  obtain ⟨b, o, n, rfl⟩ : ∃ b o n, i = ix3 b o n := ⟨_, _, _, eq_ix3 i⟩
  rw [features_apply _ _ _ _ _ _ _ h0 h1, feats_apply]
  obtain ⟨r2, e2⟩ := hb2 o
  rw [e2, normR_add _ r2 eps _ _ (by norm_num) card_count]
  congr 2
  funext j
  refine Finset.sum_congr rfl fun k _ => ?_
  obtain ⟨r1, e1⟩ := hb1 k
  obtain ⟨q1, f1⟩ := hg1 k
  rw [e1, f1, normK_eq_normR _ r1 q1 _ (by norm_num) eps_pos card_count]
  rfl

end Cert.Same

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Params
public import proofs.«01_k».proof.Proof.KernelRun
public import proofs.«01_k».proof.Proof.Features
public import Idealize.ShloMosaic.Adequacy
public import Idealize.ShloMosaic.Init

@[expose] public section

noncomputable section

namespace Cert.Proof

open Idealize.ShloMosaic Idealize.SL.Sem Idealize.ShloMosaic.StableHlo

/-- The reference runs, its arguments end unchanged, and it has no semaphore to leave raised. -/
theorem reference_frame : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- On memories that agree at the arguments, with `b1`, `g1` and `b2` finite, the reference's result is the kernel's. -/
theorem results_agree (m : (ℓ : Loc Cert.KernelIdeal.nD Cert.KernelIdeal.τ Cert.KernelIdeal.sig) → Buf (Elt Ideal) ℓ)
    (V : Valuation Cert.ReferenceIdeal.τ Cert.ReferenceIdeal.sig (Elt Ideal)) (c : Dev Cert.KernelIdeal.nD)
    (hb1 : ∀ i, ∃ r : ℝ, Cert.ReferenceIdeal.Terms.b1 V i = r) (hg1 : ∀ i, ∃ r : ℝ, Cert.ReferenceIdeal.Terms.g1 V i = r)
    (hb2 : ∀ i, ∃ r : ℝ, Cert.ReferenceIdeal.Terms.b2 V i = r)
    (e0 : Cert.ReferenceIdeal.Terms.x V = Cert.KernelIdeal.Arrays.argX m c)
    (e1 : V (Proc.devRef .tc Cert.ReferenceIdeal.main_arg1) = m ((c.tc : Thread Cert.KernelIdeal.nD Cert.KernelIdeal.τ).loc Cert.KernelIdeal.main_arg1))
    (e2 : Cert.ReferenceIdeal.Terms.W1 V = Cert.KernelIdeal.Arrays.argW m c)
    (e4 : Cert.ReferenceIdeal.Terms.g1 V = m ((c.tc : Thread Cert.KernelIdeal.nD Cert.KernelIdeal.τ).loc Cert.KernelIdeal.main_arg4))
    (e5 : Cert.ReferenceIdeal.Terms.be1 V = m ((c.tc : Thread Cert.KernelIdeal.nD Cert.KernelIdeal.τ).loc Cert.KernelIdeal.main_arg5))
    (e6 : Cert.ReferenceIdeal.Terms.W2 V = m ((c.tc : Thread Cert.KernelIdeal.nD Cert.KernelIdeal.τ).loc Cert.KernelIdeal.main_arg6))
    (e8 : Cert.ReferenceIdeal.Terms.g2 V = m ((c.tc : Thread Cert.KernelIdeal.nD Cert.KernelIdeal.τ).loc Cert.KernelIdeal.main_arg8))
    (e9 : Cert.ReferenceIdeal.Terms.be2 V = m ((c.tc : Thread Cert.KernelIdeal.nD Cert.KernelIdeal.τ).loc Cert.KernelIdeal.main_arg9))
    (e10 : V (Proc.devRef .tc Cert.ReferenceIdeal.main_arg10) = m ((c.tc : Thread Cert.KernelIdeal.nD Cert.KernelIdeal.τ).loc Cert.KernelIdeal.main_arg10))
    (e11 : V (Proc.devRef .tc Cert.ReferenceIdeal.main_arg11) = m ((c.tc : Thread Cert.KernelIdeal.nD Cert.KernelIdeal.τ).loc Cert.KernelIdeal.main_arg11))
    (e12 : V (Proc.devRef .tc Cert.ReferenceIdeal.main_arg12) = m ((c.tc : Thread Cert.KernelIdeal.nD Cert.KernelIdeal.τ).loc Cert.KernelIdeal.main_arg12))
    (e13 : V (Proc.devRef .tc Cert.ReferenceIdeal.main_arg13) = m ((c.tc : Thread Cert.KernelIdeal.nD Cert.KernelIdeal.τ).loc Cert.KernelIdeal.main_arg13)) :
    Cert.KernelIdeal.Terms.top (F := Ideal) (Cert.KernelIdeal.Terms.leaky3 (Cert.ReferenceIdeal.Value.res_main_v95 V)) = Cert.KernelIdeal.Result.result m c := by
  rw [Cert.ReferenceIdeal.Terms.result_eq, ← Cert.Same.features_eq V (Cert.KernelIdeal.Result.stats m c)
    (fun k => (Cert.KernelIdeal.Arrays.stats_row0 m c k).trans (by rw [e0, e2]))
    (fun k => (Cert.KernelIdeal.Arrays.stats_row1 m c k).trans (by rw [e0, e2]))
    (fun _ => hb1 _) (fun _ => hg1 _) (fun _ => hb2 _)]
  rw [e0, e1, e2, e4, e5, e6, e8, e9, e10, e11, e12, e13]
  rfl

/-- THE KERNEL COMPUTES THE REFERENCE over the extended reals, when `b1`, `g1` and `b2` are finite. -/
theorem same_result : Cert.algebraic_KernelIdeal_ReferenceIdeal_pre_finite_params := by
  intro m g m' g' hpre hag
  refine ⟨fun c => Cert.KernelIdeal.Result.result m c, ?_, ?_⟩
  · exact (θ_run Cert.KernelIdeal.defs _ _).mono (fun r h c => ⟨h.1 c, h.2 c⟩)
      (θ_run_and (Cert.KernelIdeal.Result.run m g) (Cert.KernelIdeal.Gen.unchanged m g))
  · refine (θ_run Cert.ReferenceIdeal.defs _ _).mono (fun r h c => ⟨(h c).1.trans ?_, (h c).2⟩)
      (Cert.ReferenceIdeal.Value.run (F := Ideal) m' g')
    obtain ⟨hb1, hg1, hb2⟩ := Cert.Params.read _ _ _ _ _ _ _ _ _ _ _ _ _ _ (hpre c)
    obtain ⟨e0, e1, e2, e3, e4, e5, e6, e7, e8, e9, e10, e11, e12, e13⟩ := hag c
    refine results_agree m (launchContents m' c) c ?_ ?_ ?_ e0 e1 e2 e4 e5 e6 e8 e9 e10 e11 e12 e13
    · exact fun i => (hb1 i).imp fun _ h => (congrFun e3 i).trans h
    · exact fun i => (hg1 i).imp fun _ h => (congrFun e4 i).trans h
    · exact fun i => (hb2 i).imp fun _ h => (congrFun e7 i).trans h

theorem claim : Cert.Claim := ⟨Cert.Kernel.Gen.facts, Cert.KernelIdeal.Gen.facts, Cert.ReferenceIdeal.Gen.facts, Cert.Params.facts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  trivial,
  same_result⟩

end Cert.Proof

end
